-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x256x1024 : Shape := ⟨3, ![4, 256, 1024]⟩
abbrev S1024 : Shape := ⟨1, ![1024]⟩
abbrev S1024x64 : Shape := ⟨2, ![1024, 64]⟩
abbrev S64x64 : Shape := ⟨2, ![64, 64]⟩
abbrev S64 : Shape := ⟨1, ![64]⟩
abbrev S16x1x1x1 : Shape := ⟨4, ![16, 1, 1, 1]⟩
abbrev S16 : Shape := ⟨1, ![16]⟩
abbrev S16x16x1x7 : Shape := ⟨4, ![16, 16, 1, 7]⟩
abbrev S32x32x1x1 : Shape := ⟨4, ![32, 32, 1, 1]⟩
abbrev S32 : Shape := ⟨1, ![32]⟩
abbrev S64x32x1x1 : Shape := ⟨4, ![64, 32, 1, 1]⟩
abbrev S64x64x1x7 : Shape := ⟨4, ![64, 64, 1, 7]⟩
abbrev S32x128x1x1 : Shape := ⟨4, ![32, 128, 1, 1]⟩
abbrev S16x32x1x1 : Shape := ⟨4, ![16, 32, 1, 1]⟩
abbrev S1x16x1x1 : Shape := ⟨4, ![1, 16, 1, 1]⟩
abbrev S1 : Shape := ⟨1, ![1]⟩
abbrev S_ : Shape := ⟨0, ![]⟩

class Facts : Prop where
  bcast_S_S4x256x1024 : S_.BroadcastsInDim S4x256x1024 (![] : Fin 0 → Fin S4x256x1024.rank)
  bcast_S_S16x1x1x1 : S_.BroadcastsInDim S16x1x1x1 (![] : Fin 0 → Fin S16x1x1x1.rank)
  bcast_S_S16 : S_.BroadcastsInDim S16 (![] : Fin 0 → Fin S16.rank)
  bcast_S_S16x16x1x7 : S_.BroadcastsInDim S16x16x1x7 (![] : Fin 0 → Fin S16x16x1x7.rank)
  bcast_S_S32x32x1x1 : S_.BroadcastsInDim S32x32x1x1 (![] : Fin 0 → Fin S32x32x1x1.rank)
  bcast_S_S32 : S_.BroadcastsInDim S32 (![] : Fin 0 → Fin S32.rank)
  bcast_S_S64x32x1x1 : S_.BroadcastsInDim S64x32x1x1 (![] : Fin 0 → Fin S64x32x1x1.rank)
  bcast_S_S64 : S_.BroadcastsInDim S64 (![] : Fin 0 → Fin S64.rank)
  bcast_S_S64x64x1x7 : S_.BroadcastsInDim S64x64x1x7 (![] : Fin 0 → Fin S64x64x1x7.rank)

variable [Facts]

def fn_part1 {F : FTy → Type} [FloatOps F] (main_arg13 : FVec F S32 .f32) (main_arg14 : FVec F S64x32x1x1 .f32) (main_arg15 : FVec F S64 .f32) (main_arg16 : FVec F S64x64x1x7 .f32) (main_arg17 : FVec F S64 .f32) (main_v2 : IVec S4x256x1024 1) (main_v5 : IVec S16x1x1x1 1) (main_v8 : IVec S16 1) (main_v11 : IVec S16x16x1x7 1) (main_v14 : IVec S16 1) (main_v17 : IVec S32x32x1x1 1) : IVec S4x256x1024 1 × IVec S16x1x1x1 1 × IVec S16 1 × IVec S16x16x1x7 1 × IVec S16 1 × IVec S32x32x1x1 1 × IVec S32 1 × IVec S64x32x1x1 1 × IVec S64 1 × IVec S64x64x1x7 1 × IVec S64 1 :=
  let main_v18 : FVec F S32 .f32 := Host.absf main_arg13
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  let main_v21 : FVec F S64x32x1x1 .f32 := Host.absf main_arg14
  let main_cst_6 : FVec F S_ .f32 := constant S_ .f32 0x7F800000#32
  let main_v22 : FVec F S64x32x1x1 .f32 := broadcastInDim S64x32x1x1 ![] bcast_S_S64x32x1x1 main_cst_6
  let main_v23 : IVec S64x32x1x1 1 := cmpf .olt main_v21 main_v22
  let main_v24 : FVec F S64 .f32 := Host.absf main_arg15
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S64x64x1x7 .f32 := Host.absf main_arg16
  let main_cst_8 : FVec F S_ .f32 := constant S_ .f32 0x7F800000#32
  let main_v28 : FVec F S64x64x1x7 .f32 := broadcastInDim S64x64x1x7 ![] bcast_S_S64x64x1x7 main_cst_8
  let main_v29 : IVec S64x64x1x7 1 := cmpf .olt main_v27 main_v28
  let main_v30 : FVec F S64 .f32 := Host.absf main_arg17
  let main_cst_9 : FVec F S_ .f32 := constant S_ .f32 0x7F800000#32
  let main_v31 : FVec F S64 .f32 := broadcastInDim S64 ![] bcast_S_S64 main_cst_9
  let main_v32 : IVec S64 1 := cmpf .olt main_v30 main_v31
  (main_v2, main_v5, main_v8, main_v11, main_v14, main_v17, main_v20, main_v23, main_v26, main_v29, main_v32)

def fn {F : FTy → Type} [FloatOps F] (main_arg0 : FVec F S4x256x1024 .f32) (main_arg1 : IVec S1024 32) (main_arg2 : FVec F S1024x64 .f32) (main_arg3 : FVec F S1024x64 .f32) (main_arg4 : FVec F S64x64 .f32) (main_arg5 : FVec F S64 .f32) (main_arg6 : FVec F S64x64 .f32) (main_arg7 : FVec F S64 .f32) (main_arg8 : FVec F S16x1x1x1 .f32) (main_arg9 : FVec F S16 .f32) (main_arg10 : FVec F S16x16x1x7 .f32) (main_arg11 : FVec F S16 .f32) (main_arg12 : FVec F S32x32x1x1 .f32) (main_arg13 : FVec F S32 .f32) (main_arg14 : FVec F S64x32x1x1 .f32) (main_arg15 : FVec F S64 .f32) (main_arg16 : FVec F S64x64x1x7 .f32) (main_arg17 : FVec F S64 .f32) (main_arg18 : FVec F S32x128x1x1 .f32) (main_arg19 : FVec F S32 .f32) (main_arg20 : FVec F S16x32x1x1 .f32) (main_arg21 : FVec F S16 .f32) (main_arg22 : FVec F S1x16x1x1 .f32) (main_arg23 : FVec F S1 .f32) : IVec S4x256x1024 1 × IVec S16x1x1x1 1 × IVec S16 1 × IVec S16x16x1x7 1 × IVec S16 1 × IVec S32x32x1x1 1 × IVec S32 1 × IVec S64x32x1x1 1 × IVec S64 1 × IVec S64x64x1x7 1 × IVec S64 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S16x1x1x1 .f32 := Host.absf main_arg8
  let main_cst_0 : FVec F S_ .f32 := constant S_ .f32 0x7F800000#32
  let main_v4 : FVec F S16x1x1x1 .f32 := broadcastInDim S16x1x1x1 ![] bcast_S_S16x1x1x1 main_cst_0
  let main_v5 : IVec S16x1x1x1 1 := cmpf .olt main_v3 main_v4
  let main_v6 : FVec F S16 .f32 := Host.absf main_arg9
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  let main_v9 : FVec F S16x16x1x7 .f32 := Host.absf main_arg10
  let main_cst_2 : FVec F S_ .f32 := constant S_ .f32 0x7F800000#32
  let main_v10 : FVec F S16x16x1x7 .f32 := broadcastInDim S16x16x1x7 ![] bcast_S_S16x16x1x7 main_cst_2
  let main_v11 : IVec S16x16x1x7 1 := cmpf .olt main_v9 main_v10
  let main_v12 : FVec F S16 .f32 := Host.absf main_arg11
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S32x32x1x1 .f32 := Host.absf main_arg12
  let main_cst_4 : FVec F S_ .f32 := constant S_ .f32 0x7F800000#32
  let main_v16 : FVec F S32x32x1x1 .f32 := broadcastInDim S32x32x1x1 ![] bcast_S_S32x32x1x1 main_cst_4
  let main_v17 : IVec S32x32x1x1 1 := cmpf .olt main_v15 main_v16
  fn_part1 (F := F) main_arg13 main_arg14 main_arg15 main_arg16 main_arg17 main_v2 main_v5 main_v8 main_v11 main_v14 main_v17
-- ==== Kernel.lean ====
abbrev S4x256x1024 : Shape := ⟨3, ![4, 256, 1024]⟩
abbrev S1024 : Shape := ⟨1, ![1024]⟩
abbrev S1024x64 : Shape := ⟨2, ![1024, 64]⟩
abbrev S64x64 : Shape := ⟨2, ![64, 64]⟩
abbrev S64 : Shape := ⟨1, ![64]⟩
abbrev S16x1x1x1 : Shape := ⟨4, ![16, 1, 1, 1]⟩
abbrev S16 : Shape := ⟨1, ![16]⟩
abbrev S16x16x1x7 : Shape := ⟨4, ![16, 16, 1, 7]⟩
abbrev S32x32x1x1 : Shape := ⟨4, ![32, 32, 1, 1]⟩
abbrev S32 : Shape := ⟨1, ![32]⟩
abbrev S64x32x1x1 : Shape := ⟨4, ![64, 32, 1, 1]⟩
abbrev S64x64x1x7 : Shape := ⟨4, ![64, 64, 1, 7]⟩
abbrev S32x128x1x1 : Shape := ⟨4, ![32, 128, 1, 1]⟩
abbrev S16x32x1x1 : Shape := ⟨4, ![16, 32, 1, 1]⟩
abbrev S1x16x1x1 : Shape := ⟨4, ![1, 16, 1, 1]⟩
abbrev S1 : Shape := ⟨1, ![1]⟩
abbrev S_ : Shape := ⟨0, ![]⟩
abbrev S1024x1 : Shape := ⟨2, ![1024, 1]⟩
abbrev S1x1 : Shape := ⟨2, ![1, 1]⟩
abbrev S1x64 : Shape := ⟨2, ![1, 64]⟩
abbrev S1024x1024 : Shape := ⟨2, ![1024, 1024]⟩
abbrev S4x268x1024 : Shape := ⟨3, ![4, 268, 1024]⟩
abbrev S16x16x7 : Shape := ⟨3, ![16, 16, 7]⟩
abbrev S7x16x16 : Shape := ⟨3, ![7, 16, 16]⟩
abbrev S64x64x7 : Shape := ⟨3, ![64, 64, 7]⟩
abbrev S7x64x64 : Shape := ⟨3, ![7, 64, 64]⟩
abbrev S32x32 : Shape := ⟨2, ![32, 32]⟩
abbrev S32x16 : Shape := ⟨2, ![32, 16]⟩
abbrev S32x128 : Shape := ⟨2, ![32, 128]⟩
abbrev S32x64 : Shape := ⟨2, ![32, 64]⟩
abbrev S64x32 : Shape := ⟨2, ![64, 32]⟩
abbrev S16x32 : Shape := ⟨2, ![16, 32]⟩
abbrev S1x16 : Shape := ⟨2, ![1, 16]⟩
abbrev S16x1 : Shape := ⟨2, ![16, 1]⟩
abbrev S32x1 : Shape := ⟨2, ![32, 1]⟩
abbrev S64x1 : Shape := ⟨2, ![64, 1]⟩
abbrev S1x268x1024 : Shape := ⟨3, ![1, 268, 1024]⟩
abbrev S1x32x1024 : Shape := ⟨3, ![1, 32, 1024]⟩
abbrev S1x44x1024 : Shape := ⟨3, ![1, 44, 1024]⟩
abbrev S44x1024 : Shape := ⟨2, ![44, 1024]⟩
abbrev S44x1 : Shape := ⟨2, ![44, 1]⟩
abbrev S16x1x1 : Shape := ⟨3, ![16, 1, 1]⟩
abbrev S16x44x1024 : Shape := ⟨3, ![16, 44, 1024]⟩
abbrev S1x44x1 : Shape := ⟨3, ![1, 44, 1]⟩
abbrev S16x38912 : Shape := ⟨2, ![16, 38912]⟩
abbrev S16x38x1024 : Shape := ⟨3, ![16, 38, 1024]⟩
abbrev S1x16x16 : Shape := ⟨3, ![1, 16, 16]⟩
abbrev S16x16 : Shape := ⟨2, ![16, 16]⟩
abbrev S608x1024 : Shape := ⟨2, ![608, 1024]⟩
abbrev S32x38912 : Shape := ⟨2, ![32, 38912]⟩
abbrev S32x38x1024 : Shape := ⟨3, ![32, 38, 1024]⟩
abbrev S32x1x1 : Shape := ⟨3, ![32, 1, 1]⟩
abbrev S64x38912 : Shape := ⟨2, ![64, 38912]⟩
abbrev S64x38x1024 : Shape := ⟨3, ![64, 38, 1024]⟩
abbrev S64x1x1 : Shape := ⟨3, ![64, 1, 1]⟩
abbrev S38x1 : Shape := ⟨2, ![38, 1]⟩
abbrev S1x38x1 : Shape := ⟨3, ![1, 38, 1]⟩
abbrev S64x32768 : Shape := ⟨2, ![64, 32768]⟩
abbrev S64x32x1024 : Shape := ⟨3, ![64, 32, 1024]⟩
abbrev S1x64x64 : Shape := ⟨3, ![1, 64, 64]⟩
abbrev S32x32768 : Shape := ⟨2, ![32, 32768]⟩
abbrev S32x32x1024 : Shape := ⟨3, ![32, 32, 1024]⟩
abbrev S16x32768 : Shape := ⟨2, ![16, 32768]⟩
abbrev S16x32x1024 : Shape := ⟨3, ![16, 32, 1024]⟩
abbrev S1x32768 : Shape := ⟨2, ![1, 32768]⟩
abbrev S1x1x1 : Shape := ⟨3, ![1, 1, 1]⟩
abbrev S32x1024 : Shape := ⟨2, ![32, 1024]⟩

abbrev nBuf : Space → Nat
  | .hbm => 126
  | .vmem => 30
  | .smem => 0
  | _ => 0

abbrev bufTy : (tb : Table) → Fin (tcTables nBuf tb) → BufTy
  | .hbm, ⟨0, _⟩ => ⟨S4x256x1024, .f32⟩
  | .hbm, ⟨1, _⟩ => ⟨S1024, .i32⟩
  | .hbm, ⟨2, _⟩ => ⟨S1024x64, .f32⟩
  | .hbm, ⟨3, _⟩ => ⟨S1024x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S16x1x1x1, .f32⟩
  | .hbm, ⟨9, _⟩ => ⟨S16, .f32⟩
  | .hbm, ⟨10, _⟩ => ⟨S16x16x1x7, .f32⟩
  | .hbm, ⟨11, _⟩ => ⟨S16, .f32⟩
  | .hbm, ⟨12, _⟩ => ⟨S32x32x1x1, .f32⟩
  | .hbm, ⟨13, _⟩ => ⟨S32, .f32⟩
  | .hbm, ⟨14, _⟩ => ⟨S64x32x1x1, .f32⟩
  | .hbm, ⟨15, _⟩ => ⟨S64, .f32⟩
  | .hbm, ⟨16, _⟩ => ⟨S64x64x1x7, .f32⟩
  | .hbm, ⟨17, _⟩ => ⟨S64, .f32⟩
  | .hbm, ⟨18, _⟩ => ⟨S32x128x1x1, .f32⟩
  | .hbm, ⟨19, _⟩ => ⟨S32, .f32⟩
  | .hbm, ⟨20, _⟩ => ⟨S16x32x1x1, .f32⟩
  | .hbm, ⟨21, _⟩ => ⟨S16, .f32⟩
  | .hbm, ⟨22, _⟩ => ⟨S1x16x1x1, .f32⟩
  | .hbm, ⟨23, _⟩ => ⟨S1, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1, .i32⟩
  | .hbm, ⟨33, _⟩ => ⟨S_, .i32⟩
  | .hbm, ⟨34, _⟩ => ⟨S1024x1, .i32⟩
  | .hbm, ⟨35, _⟩ => ⟨S1024x1, .i1⟩
  | .hbm, ⟨36, _⟩ => ⟨S1x1, .i32⟩
  | .hbm, ⟨37, _⟩ => ⟨S1024x1, .i32⟩
  | .hbm, ⟨38, _⟩ => ⟨S1024x1, .i1⟩
  | .hbm, ⟨39, _⟩ => ⟨S1024x1, .i1⟩
  | .hbm, ⟨40, _⟩ => ⟨S_, .i1⟩
  | .hbm, ⟨41, _⟩ => ⟨S1024, .i1⟩
  | .hbm, ⟨42, _⟩ => ⟨S1024x64, .f32⟩
  | .hbm, ⟨43, _⟩ => ⟨S1024x64, .i1⟩
  | .hbm, ⟨44, _⟩ => ⟨S_, .f32⟩
  | .hbm, ⟨45, _⟩ => ⟨S1024x64, .f32⟩
  | .hbm, ⟨46, _⟩ => ⟨S1024x64, .f32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1, .i32⟩
  | .hbm, ⟨56, _⟩ => ⟨S_, .i32⟩
  | .hbm, ⟨57, _⟩ => ⟨S1024x1, .i32⟩
  | .hbm, ⟨58, _⟩ => ⟨S1024x1, .i1⟩
  | .hbm, ⟨59, _⟩ => ⟨S1x1, .i32⟩
  | .hbm, ⟨60, _⟩ => ⟨S1024x1, .i32⟩
  | .hbm, ⟨61, _⟩ => ⟨S1024x1, .i1⟩
  | .hbm, ⟨62, _⟩ => ⟨S1024x1, .i1⟩
  | .hbm, ⟨63, _⟩ => ⟨S_, .i1⟩
  | .hbm, ⟨64, _⟩ => ⟨S1024, .i1⟩
  | .hbm, ⟨65, _⟩ => ⟨S1024x64, .f32⟩
  | .hbm, ⟨66, _⟩ => ⟨S1024x64, .i1⟩
  | .hbm, ⟨67, _⟩ => ⟨S_, .f32⟩
  | .hbm, ⟨68, _⟩ => ⟨S1024x64, .f32⟩
  | .hbm, ⟨69, _⟩ => ⟨S1024x64, .f32⟩
  | .hbm, ⟨70, _⟩ => ⟨S1x64, .f32⟩
  | .hbm, ⟨71, _⟩ => ⟨S1x64, .f32⟩
  | .hbm, ⟨72, _⟩ => ⟨S1024x1024, .f32⟩
  | .hbm, ⟨73, _⟩ => ⟨S_, .i32⟩
  | .hbm, ⟨74, _⟩ => ⟨S_, .f32⟩
  | .hbm, ⟨75, _⟩ => ⟨S4x268x1024, .f32⟩
  | .hbm, ⟨76, _⟩ => ⟨S1024x1024, .bf16⟩
  | .hbm, ⟨77, _⟩ => ⟨S16x16x7, .f32⟩
  | .hbm, ⟨78, _⟩ => ⟨S7x16x16, .f32⟩
  | .hbm, ⟨79, _⟩ => ⟨S7x16x16, .bf16⟩
  | .hbm, ⟨80, _⟩ => ⟨S64x64x7, .f32⟩
  | .hbm, ⟨81, _⟩ => ⟨S7x64x64, .f32⟩
  | .hbm, ⟨82, _⟩ => ⟨S7x64x64, .bf16⟩
  | .hbm, ⟨83, _⟩ => ⟨S32x32, .f32⟩
  | .hbm, ⟨84, _⟩ => ⟨S32x16, .f32⟩
  | .hbm, ⟨85, _⟩ => ⟨S32x16, .f32⟩
  | .hbm, ⟨86, _⟩ => ⟨S_, .f32⟩
  | .hbm, ⟨87, _⟩ => ⟨S32x16, .f32⟩
  | .hbm, ⟨88, _⟩ => ⟨S32x16, .f32⟩
  | .hbm, ⟨89, _⟩ => ⟨S32x16, .f32⟩
  | .hbm, ⟨90, _⟩ => ⟨S32x16, .bf16⟩
  | .hbm, ⟨91, _⟩ => ⟨S32x16, .f32⟩
  | .hbm, ⟨92, _⟩ => ⟨S_, .f32⟩
  | .hbm, ⟨93, _⟩ => ⟨S32x16, .f32⟩
  | .hbm, ⟨94, _⟩ => ⟨S32x16, .f32⟩
  | .hbm, ⟨95, _⟩ => ⟨S32x16, .bf16⟩
  | .hbm, ⟨96, _⟩ => ⟨S32x128, .f32⟩
  | .hbm, ⟨97, _⟩ => ⟨S32x64, .f32⟩
  | .hbm, ⟨98, _⟩ => ⟨S32x64, .f32⟩
  | .hbm, ⟨99, _⟩ => ⟨S_, .f32⟩
  | .hbm, ⟨100, _⟩ => ⟨S32x64, .f32⟩
  | .hbm, ⟨101, _⟩ => ⟨S32x64, .f32⟩
  | .hbm, ⟨102, _⟩ => ⟨S32x64, .f32⟩
  | .hbm, ⟨103, _⟩ => ⟨S32x64, .bf16⟩
  | .hbm, ⟨104, _⟩ => ⟨S32x64, .f32⟩
  | .hbm, ⟨105, _⟩ => ⟨S_, .f32⟩
  | .hbm, ⟨106, _⟩ => ⟨S32x64, .f32⟩
  | .hbm, ⟨107, _⟩ => ⟨S32x64, .f32⟩
  | .hbm, ⟨108, _⟩ => ⟨S32x64, .bf16⟩
  | .hbm, ⟨109, _⟩ => ⟨S64x32, .f32⟩
  | .hbm, ⟨110, _⟩ => ⟨S64x32, .bf16⟩
  | .hbm, ⟨111, _⟩ => ⟨S16x32, .f32⟩
  | .hbm, ⟨112, _⟩ => ⟨S16x32, .bf16⟩
  | .hbm, ⟨113, _⟩ => ⟨S1x16, .f32⟩
  | .hbm, ⟨114, _⟩ => ⟨S1x16, .bf16⟩
  | .hbm, ⟨115, _⟩ => ⟨S16, .f32⟩
  | .hbm, ⟨116, _⟩ => ⟨S16x1, .f32⟩
  | .hbm, ⟨117, _⟩ => ⟨S16x1, .f32⟩
  | .hbm, ⟨118, _⟩ => ⟨S16x1, .f32⟩
  | .hbm, ⟨119, _⟩ => ⟨S32x1, .f32⟩
  | .hbm, ⟨120, _⟩ => ⟨S64x1, .f32⟩
  | .hbm, ⟨121, _⟩ => ⟨S64x1, .f32⟩
  | .hbm, ⟨122, _⟩ => ⟨S32x1, .f32⟩
  | .hbm, ⟨123, _⟩ => ⟨S16x1, .f32⟩
  | .hbm, ⟨124, _⟩ => ⟨S1x1, .f32⟩
  | .hbm, ⟨125, _⟩ => ⟨S4x256x1024, .f32⟩
  | .local _ .vmem, ⟨0, _⟩ => ⟨S1024x64, .f32⟩
  | .local _ .vmem, ⟨1, _⟩ => ⟨S1024x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1024x1024, .f32⟩
  | .local _ .vmem, ⟨7, _⟩ => ⟨S1x268x1024, .f32⟩
  | .local _ .vmem, ⟨8, _⟩ => ⟨S1x268x1024, .f32⟩
  | .local _ .vmem, ⟨9, _⟩ => ⟨S1024x1024, .bf16⟩
  | .local _ .vmem, ⟨10, _⟩ => ⟨S16x1, .f32⟩
  | .local _ .vmem, ⟨11, _⟩ => ⟨S16x1, .f32⟩
  | .local _ .vmem, ⟨12, _⟩ => ⟨S7x16x16, .bf16⟩
  | .local _ .vmem, ⟨13, _⟩ => ⟨S16x1, .f32⟩
  | .local _ .vmem, ⟨14, _⟩ => ⟨S32x16, .bf16⟩
  | .local _ .vmem, ⟨15, _⟩ => ⟨S32x16, .bf16⟩
  | .local _ .vmem, ⟨16, _⟩ => ⟨S32x1, .f32⟩
  | .local _ .vmem, ⟨17, _⟩ => ⟨S64x32, .bf16⟩
  | .local _ .vmem, ⟨18, _⟩ => ⟨S64x1, .f32⟩
  | .local _ .vmem, ⟨19, _⟩ => ⟨S7x64x64, .bf16⟩
  | .local _ .vmem, ⟨20, _⟩ => ⟨S64x1, .f32⟩
  | .local _ .vmem, ⟨21, _⟩ => ⟨S32x64, .bf16⟩
  | .local _ .vmem, ⟨22, _⟩ => ⟨S32x64, .bf16⟩
  | .local _ .vmem, ⟨23, _⟩ => ⟨S32x1, .f32⟩
  | .local _ .vmem, ⟨24, _⟩ => ⟨S16x32, .bf16⟩
  | .local _ .vmem, ⟨25, _⟩ => ⟨S16x1, .f32⟩
  | .local _ .vmem, ⟨26, _⟩ => ⟨S1x16, .bf16⟩
  | .local _ .vmem, ⟨27, _⟩ => ⟨S1x1, .f32⟩
  | .local _ .vmem, ⟨28, _⟩ => ⟨S1x32x1024, .f32⟩
  | .local _ .vmem, ⟨29, _⟩ => ⟨S1x32x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v0 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v1 : Ref sig .tc := ⟨.hbm, 69, rfl⟩
abbrev main_v2 : Ref sig .tc := ⟨.hbm, 70, rfl⟩
abbrev main_v3 : Ref sig .tc := ⟨.hbm, 71, rfl⟩
abbrev main_v4 : Ref sig .tc := ⟨.hbm, 72, rfl⟩
abbrev main_c : Ref sig .tc := ⟨.hbm, 73, rfl⟩
abbrev main_call2_v0 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_cst_0 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_cst_1 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_cst_2 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc1_stg16_0 : Ref sig .tc := ⟨.vmem, 24, rfl⟩
abbrev cc1_stg17_0 : Ref sig .tc := ⟨.vmem, 25, rfl⟩
abbrev cc1_stg18_0 : Ref sig .tc := ⟨.vmem, 26, rfl⟩
abbrev cc1_stg19_0 : Ref sig .tc := ⟨.vmem, 27, rfl⟩
abbrev cc1_stg20_0 : Ref sig .tc := ⟨.vmem, 28, rfl⟩
abbrev cc1_stg20_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem17_0 : DmaSem sig := 25
abbrev cc1_sem18_0 : DmaSem sig := 26
abbrev cc1_sem19_0 : DmaSem sig := 27
abbrev cc1_sem20_0 : DmaSem sig := 28
abbrev cc1_sem20_1 : DmaSem sig := 29

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c30_i32 : BitVec 32 := 30#32
  let v32 : BitVec 32 := Scalar.addi c0_i32 c30_i32
  let c1_i32 : BitVec 32 := 1#32
  ⟨c0_i32, v32, c1_i32⟩
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![4, 8], ![false, false]⟩

def k1_off1 (i : grid1.Coords) : Fin 3 → Nat :=
  let c0_1 : Index := 0#32
  let arg1 : BitVec 32 := BitVec.ofNat 32 (i 1).val
  let c32_i32 : BitVec 32 := 32#32
  let v0 : BitVec 32 := Scalar.muli arg1 c32_i32
  let v3 : Index := Scalar.indexCast v0
  let c0_2 : Index := 0#32
  ![0, v3.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x268x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S7x16x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S32x16 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S32x16 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x32 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S7x64x64 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S64x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S32x64 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S32x64 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S32x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S16x32 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S16x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x16 .bf16 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1x1 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]

abbrev stage1_20 : Fin 2 → Memref sig .tc .vmem S1x32x1024 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]
-- ==== ReferenceIdeal.lean ====
abbrev S4x256x1024 : Shape := ⟨3, ![4, 256, 1024]⟩
abbrev S1024 : Shape := ⟨1, ![1024]⟩
abbrev S1024x64 : Shape := ⟨2, ![1024, 64]⟩
abbrev S64x64 : Shape := ⟨2, ![64, 64]⟩
abbrev S64 : Shape := ⟨1, ![64]⟩
abbrev S16x1x1x1 : Shape := ⟨4, ![16, 1, 1, 1]⟩
abbrev S16 : Shape := ⟨1, ![16]⟩
abbrev S16x16x1x7 : Shape := ⟨4, ![16, 16, 1, 7]⟩
abbrev S32x32x1x1 : Shape := ⟨4, ![32, 32, 1, 1]⟩
abbrev S32 : Shape := ⟨1, ![32]⟩
abbrev S64x32x1x1 : Shape := ⟨4, ![64, 32, 1, 1]⟩
abbrev S64x64x1x7 : Shape := ⟨4, ![64, 64, 1, 7]⟩
abbrev S32x128x1x1 : Shape := ⟨4, ![32, 128, 1, 1]⟩
abbrev S16x32x1x1 : Shape := ⟨4, ![16, 32, 1, 1]⟩
abbrev S1x16x1x1 : Shape := ⟨4, ![1, 16, 1, 1]⟩
abbrev S1 : Shape := ⟨1, ![1]⟩
abbrev S4x1x256x1024 : Shape := ⟨4, ![4, 1, 256, 1024]⟩
abbrev S4x1x1024x256 : Shape := ⟨4, ![4, 1, 1024, 256]⟩
abbrev S_ : Shape := ⟨0, ![]⟩
abbrev S1024x1 : Shape := ⟨2, ![1024, 1]⟩
abbrev S1x1 : Shape := ⟨2, ![1, 1]⟩
abbrev S1x64 : Shape := ⟨2, ![1, 64]⟩
abbrev S64x1024 : Shape := ⟨2, ![64, 1024]⟩
abbrev S1024x1024 : Shape := ⟨2, ![1024, 1024]⟩
abbrev S1024x30 : Shape := ⟨2, ![1024, 30]⟩
abbrev S1024x30x1 : Shape := ⟨3, ![1024, 30, 1]⟩
abbrev S1024x30x2 : Shape := ⟨3, ![1024, 30, 2]⟩
abbrev S16x1 : Shape := ⟨2, ![16, 1]⟩
abbrev S4x1024x256x16 : Shape := ⟨4, ![4, 1024, 256, 16]⟩
abbrev S4x16x1024x256 : Shape := ⟨4, ![4, 16, 1024, 256]⟩
abbrev S4x16x1024x262 : Shape := ⟨4, ![4, 16, 1024, 262]⟩
abbrev S16x16x1x1 : Shape := ⟨4, ![16, 16, 1, 1]⟩
abbrev S16x16 : Shape := ⟨2, ![16, 16]⟩
abbrev S1024x4x16x256 : Shape := ⟨4, ![1024, 4, 16, 256]⟩
abbrev S4x32x1024x256 : Shape := ⟨4, ![4, 32, 1024, 256]⟩
abbrev S32x32 : Shape := ⟨2, ![32, 32]⟩
abbrev S4x1024x256x32 : Shape := ⟨4, ![4, 1024, 256, 32]⟩
abbrev S1x32x1x1 : Shape := ⟨4, ![1, 32, 1, 1]⟩
abbrev S64x32 : Shape := ⟨2, ![64, 32]⟩
abbrev S4x1024x256x64 : Shape := ⟨4, ![4, 1024, 256, 64]⟩
abbrev S4x64x1024x256 : Shape := ⟨4, ![4, 64, 1024, 256]⟩
abbrev S1x64x1x1 : Shape := ⟨4, ![1, 64, 1, 1]⟩
abbrev S4x64x1024x262 : Shape := ⟨4, ![4, 64, 1024, 262]⟩
abbrev S64x64x1x1 : Shape := ⟨4, ![64, 64, 1, 1]⟩
abbrev S1024x4x64x256 : Shape := ⟨4, ![1024, 4, 64, 256]⟩
abbrev S4x128x1024x256 : Shape := ⟨4, ![4, 128, 1024, 256]⟩
abbrev S32x128 : Shape := ⟨2, ![32, 128]⟩
abbrev S16x32 : Shape := ⟨2, ![16, 32]⟩
abbrev S1x16 : Shape := ⟨2, ![1, 16]⟩
abbrev S4x1024x256x1 : Shape := ⟨4, ![4, 1024, 256, 1]⟩
abbrev S1x1x1x1 : Shape := ⟨4, ![1, 1, 1, 1]⟩
abbrev S4x1024x256 : Shape := ⟨3, ![4, 1024, 256]⟩

abbrev nBuf : Space → Nat
  | .hbm => 326
  | .vmem => 0
  | .smem => 0
  | _ => 0

abbrev hbmTy0_0 (i : Nat) : BufTy := match i % 128 with
  | 0 => ⟨S4x256x1024, .f32⟩
  | 1 => ⟨S1024, .i32⟩
  | 2 => ⟨S1024x64, .f32⟩
  | 3 => ⟨S1024x64, .f32⟩
  | 4 => ⟨S64x64, .f32⟩
  | 5 => ⟨S64, .f32⟩
  | 6 => ⟨S64x64, .f32⟩
  | 7 => ⟨S64, .f32⟩
  | 8 => ⟨S16x1x1x1, .f32⟩
  | 9 => ⟨S16, .f32⟩
  | 10 => ⟨S16x16x1x7, .f32⟩
  | 11 => ⟨S16, .f32⟩
  | 12 => ⟨S32x32x1x1, .f32⟩
  | 13 => ⟨S32, .f32⟩
  | 14 => ⟨S64x32x1x1, .f32⟩
  | 15 => ⟨S64, .f32⟩
  | 16 => ⟨S64x64x1x7, .f32⟩
  | 17 => ⟨S64, .f32⟩
  | 18 => ⟨S32x128x1x1, .f32⟩
  | 19 => ⟨S32, .f32⟩
  | 20 => ⟨S16x32x1x1, .f32⟩
  | 21 => ⟨S16, .f32⟩
  | 22 => ⟨S1x16x1x1, .f32⟩
  | 23 => ⟨S1, .f32⟩
  | 24 => ⟨S4x1x256x1024, .f32⟩
  | 25 => ⟨S4x1x1024x256, .f32⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S1, .i32⟩
  | 35 => ⟨S_, .i32⟩
  | 36 => ⟨S1024x1, .i32⟩
  | 37 => ⟨S1024x1, .i1⟩
  | 38 => ⟨S1x1, .i32⟩
  | 39 => ⟨S1024x1, .i32⟩
  | 40 => ⟨S1024x1, .i1⟩
  | 41 => ⟨S1024x1, .i1⟩
  | 42 => ⟨S_, .i1⟩
  | 43 => ⟨S1024, .i1⟩
  | 44 => ⟨S1024x64, .f32⟩
  | 45 => ⟨S1024x64, .i1⟩
  | 46 => ⟨S_, .f32⟩
  | 47 => ⟨S1024x64, .f32⟩
  | 48 => ⟨S1024x64, .f32⟩
  | 49 => ⟨S_, .i32⟩
  | 50 => ⟨S1024, .i32⟩
  | 51 => ⟨S1024, .i1⟩
  | 52 => ⟨S_, .i32⟩
  | 53 => ⟨S1024, .i32⟩
  | 54 => ⟨S1024, .i32⟩
  | 55 => ⟨S1024, .i32⟩
  | 56 => ⟨S1024x1, .i32⟩
  | 57 => ⟨S1, .i32⟩
  | 58 => ⟨S_, .i32⟩
  | 59 => ⟨S1024x1, .i32⟩
  | 60 => ⟨S1024x1, .i1⟩
  | 61 => ⟨S1x1, .i32⟩
  | 62 => ⟨S1024x1, .i32⟩
  | 63 => ⟨S1024x1, .i1⟩
  | 64 => ⟨S1024x1, .i1⟩
  | 65 => ⟨S_, .i1⟩
  | 66 => ⟨S1024, .i1⟩
  | 67 => ⟨S1024x64, .f32⟩
  | 68 => ⟨S1024x64, .i1⟩
  | 69 => ⟨S_, .f32⟩
  | 70 => ⟨S1024x64, .f32⟩
  | 71 => ⟨S1024x64, .f32⟩
  | 72 => ⟨S64x64, .f32⟩
  | 73 => ⟨S1024x64, .f32⟩
  | 74 => ⟨S1x64, .f32⟩
  | 75 => ⟨S1024x64, .f32⟩
  | 76 => ⟨S1024x64, .f32⟩
  | 77 => ⟨S_, .f32⟩
  | 78 => ⟨S1024x64, .f32⟩
  | 79 => ⟨S1024x64, .f32⟩
  | 80 => ⟨S1024x64, .f32⟩
  | 81 => ⟨S64x64, .f32⟩
  | 82 => ⟨S1024x64, .f32⟩
  | 83 => ⟨S1x64, .f32⟩
  | 84 => ⟨S1024x64, .f32⟩
  | 85 => ⟨S1024x64, .f32⟩
  | 86 => ⟨S_, .f32⟩
  | 87 => ⟨S1024x64, .f32⟩
  | 88 => ⟨S1024x64, .f32⟩
  | 89 => ⟨S1024x64, .f32⟩
  | 90 => ⟨S64x1024, .f32⟩
  | 91 => ⟨S1024x1024, .f32⟩
  | 92 => ⟨S64x1024, .f32⟩
  | 93 => ⟨S1024x1024, .f32⟩
  | 94 => ⟨S1024x1024, .f32⟩
  | 95 => ⟨S_, .f32⟩
  | 96 => ⟨S1024x1024, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x30, .f32⟩
  | 103 => ⟨S1024x30, .i32⟩
  | 104 => ⟨S_, .f32⟩
  | 105 => ⟨S1024x1024, .f32⟩
  | 106 => ⟨S1024, .i32⟩
  | 107 => ⟨S1024x1, .i32⟩
  | 108 => ⟨S_, .i32⟩
  | 109 => ⟨S1024x1, .i32⟩
  | 110 => ⟨S1024x1, .i1⟩
  | 111 => ⟨S_, .i32⟩
  | 112 => ⟨S1024x1, .i32⟩
  | 113 => ⟨S1024x1, .i32⟩
  | 114 => ⟨S1024x1, .i32⟩
  | 115 => ⟨S_, .i32⟩
  | 116 => ⟨S1024x30, .i32⟩
  | 117 => ⟨S1024x30, .i1⟩
  | 118 => ⟨S_, .i32⟩
  | 119 => ⟨S1024x30, .i32⟩
  | 120 => ⟨S1024x30, .i32⟩
  | 121 => ⟨S1024x30, .i32⟩
  | 122 => ⟨S1024x30, .i32⟩
  | 123 => ⟨S1024x30x1, .i32⟩
  | 124 => ⟨S1024x30x1, .i32⟩
  | 125 => ⟨S1024x30x2, .i32⟩
  | 126 => ⟨S_, .f32⟩
  | 127 => ⟨S1024x30, .f32⟩
  | _ => ⟨S4x256x1024, .f32⟩

abbrev hbmTy0_1 (i : Nat) : BufTy := match i % 128 with
  | 0 => ⟨S1024x1024, .f32⟩
  | 1 => ⟨S1024x1024, .f32⟩
  | 2 => ⟨S16x1, .f32⟩
  | 3 => ⟨S4x1024x256x16, .f32⟩
  | 4 => ⟨S4x16x1024x256, .f32⟩
  | 5 => ⟨S1x16x1x1, .f32⟩
  | 6 => ⟨S4x16x1024x256, .f32⟩
  | 7 => ⟨S4x16x1024x256, .f32⟩
  | 8 => ⟨S_, .i32⟩
  | 9 => ⟨S_, .f32⟩
  | 10 => ⟨S4x16x1024x262, .f32⟩
  | 11 => ⟨S16x16x1x1, .f32⟩
  | 12 => ⟨S16x16, .f32⟩
  | 13 => ⟨S4x16x1024x256, .f32⟩
  | 14 => ⟨S4x1024x256x16, .f32⟩
  | 15 => ⟨S4x16x1024x256, .f32⟩
  | 16 => ⟨S_, .f32⟩
  | 17 => ⟨S4x16x1024x256, .f32⟩
  | 18 => ⟨S4x16x1024x256, .f32⟩
  | 19 => ⟨S16x16x1x1, .f32⟩
  | 20 => ⟨S16x16, .f32⟩
  | 21 => ⟨S4x16x1024x256, .f32⟩
  | 22 => ⟨S4x1024x256x16, .f32⟩
  | 23 => ⟨S4x16x1024x256, .f32⟩
  | 24 => ⟨S4x16x1024x256, .f32⟩
  | 25 => ⟨S16x16x1x1, .f32⟩
  | 26 => ⟨S16x16, .f32⟩
  | 27 => ⟨S4x16x1024x256, .f32⟩
  | 28 => ⟨S4x1024x256x16, .f32⟩
  | 29 => ⟨S4x16x1024x256, .f32⟩
  | 30 => ⟨S4x16x1024x256, .f32⟩
  | 31 => ⟨S16x16x1x1, .f32⟩
  | 32 => ⟨S16x16, .f32⟩
  | 33 => ⟨S4x16x1024x256, .f32⟩
  | 34 => ⟨S4x1024x256x16, .f32⟩
  | 35 => ⟨S4x16x1024x256, .f32⟩
  | 36 => ⟨S4x16x1024x256, .f32⟩
  | 37 => ⟨S16x16x1x1, .f32⟩
  | 38 => ⟨S16x16, .f32⟩
  | 39 => ⟨S4x16x1024x256, .f32⟩
  | 40 => ⟨S4x1024x256x16, .f32⟩
  | 41 => ⟨S4x16x1024x256, .f32⟩
  | 42 => ⟨S4x16x1024x256, .f32⟩
  | 43 => ⟨S16x16x1x1, .f32⟩
  | 44 => ⟨S16x16, .f32⟩
  | 45 => ⟨S4x16x1024x256, .f32⟩
  | 46 => ⟨S4x1024x256x16, .f32⟩
  | 47 => ⟨S4x16x1024x256, .f32⟩
  | 48 => ⟨S4x16x1024x256, .f32⟩
  | 49 => ⟨S16x16x1x1, .f32⟩
  | 50 => ⟨S16x16, .f32⟩
  | 51 => ⟨S4x16x1024x256, .f32⟩
  | 52 => ⟨S4x1024x256x16, .f32⟩
  | 53 => ⟨S4x16x1024x256, .f32⟩
  | 54 => ⟨S4x16x1024x256, .f32⟩
  | 55 => ⟨S1x16x1x1, .f32⟩
  | 56 => ⟨S4x16x1024x256, .f32⟩
  | 57 => ⟨S4x16x1024x256, .f32⟩
  | 58 => ⟨S_, .f32⟩
  | 59 => ⟨S4x16x1024x256, .f32⟩
  | 60 => ⟨S4x16x1024x256, .f32⟩
  | 61 => ⟨S1024x1024, .i32⟩
  | 62 => ⟨S1024x1024, .i32⟩
  | 63 => ⟨S_, .i32⟩
  | 64 => ⟨S1024x1024, .i32⟩
  | 65 => ⟨S1024x1024, .i32⟩
  | 66 => ⟨S1024x1024, .i1⟩
  | 67 => ⟨S1024x1024, .f32⟩
  | 68 => ⟨S1024x1024, .f32⟩
  | 69 => ⟨S_, .f32⟩
  | 70 => ⟨S1024, .f32⟩
  | 71 => ⟨S1024x1, .f32⟩
  | 72 => ⟨S1024x1024, .f32⟩
  | 73 => ⟨S1024x1024, .f32⟩
  | 74 => ⟨S_, .f32⟩
  | 75 => ⟨S4x16x1024x256, .f32⟩
  | 76 => ⟨S4x16x1024x256, .f32⟩
  | 77 => ⟨S1024x4x16x256, .f32⟩
  | 78 => ⟨S4x16x1024x256, .f32⟩
  | 79 => ⟨S_, .f32⟩
  | 80 => ⟨S4x16x1024x256, .f32⟩
  | 81 => ⟨S4x16x1024x256, .f32⟩
  | 82 => ⟨S4x16x1024x256, .f32⟩
  | 83 => ⟨S4x32x1024x256, .f32⟩
  | 84 => ⟨S32x32, .f32⟩
  | 85 => ⟨S4x1024x256x32, .f32⟩
  | 86 => ⟨S4x32x1024x256, .f32⟩
  | 87 => ⟨S1x32x1x1, .f32⟩
  | 88 => ⟨S4x32x1024x256, .f32⟩
  | 89 => ⟨S4x32x1024x256, .f32⟩
  | 90 => ⟨S_, .f32⟩
  | 91 => ⟨S4x32x1024x256, .f32⟩
  | 92 => ⟨S4x32x1024x256, .f32⟩
  | 93 => ⟨S64x32, .f32⟩
  | 94 => ⟨S4x1024x256x64, .f32⟩
  | 95 => ⟨S4x64x1024x256, .f32⟩
  | 96 => ⟨S1x64x1x1, .f32⟩
  | 97 => ⟨S4x64x1024x256, .f32⟩
  | 98 => ⟨S4x64x1024x256, .f32⟩
  | 99 => ⟨S_, .i32⟩
  | 100 => ⟨S_, .f32⟩
  | 101 => ⟨S4x64x1024x262, .f32⟩
  | 102 => ⟨S64x64x1x1, .f32⟩
  | 103 => ⟨S64x64, .f32⟩
  | 104 => ⟨S4x64x1024x256, .f32⟩
  | 105 => ⟨S4x1024x256x64, .f32⟩
  | 106 => ⟨S4x64x1024x256, .f32⟩
  | 107 => ⟨S_, .f32⟩
  | 108 => ⟨S4x64x1024x256, .f32⟩
  | 109 => ⟨S4x64x1024x256, .f32⟩
  | 110 => ⟨S64x64x1x1, .f32⟩
  | 111 => ⟨S64x64, .f32⟩
  | 112 => ⟨S4x64x1024x256, .f32⟩
  | 113 => ⟨S4x1024x256x64, .f32⟩
  | 114 => ⟨S4x64x1024x256, .f32⟩
  | 115 => ⟨S4x64x1024x256, .f32⟩
  | 116 => ⟨S64x64x1x1, .f32⟩
  | 117 => ⟨S64x64, .f32⟩
  | 118 => ⟨S4x64x1024x256, .f32⟩
  | 119 => ⟨S4x1024x256x64, .f32⟩
  | 120 => ⟨S4x64x1024x256, .f32⟩
  | 121 => ⟨S4x64x1024x256, .f32⟩
  | 122 => ⟨S64x64x1x1, .f32⟩
  | 123 => ⟨S64x64, .f32⟩
  | 124 => ⟨S4x64x1024x256, .f32⟩
  | 125 => ⟨S4x1024x256x64, .f32⟩
  | 126 => ⟨S4x64x1024x256, .f32⟩
  | 127 => ⟨S4x64x1024x256, .f32⟩
  | _ => ⟨S4x256x1024, .f32⟩

abbrev hbmTy0_2 (i : Nat) : BufTy := match i % 128 with
  | 0 => ⟨S64x64x1x1, .f32⟩
  | 1 => ⟨S64x64, .f32⟩
  | 2 => ⟨S4x64x1024x256, .f32⟩
  | 3 => ⟨S4x1024x256x64, .f32⟩
  | 4 => ⟨S4x64x1024x256, .f32⟩
  | 5 => ⟨S4x64x1024x256, .f32⟩
  | 6 => ⟨S64x64x1x1, .f32⟩
  | 7 => ⟨S64x64, .f32⟩
  | 8 => ⟨S4x64x1024x256, .f32⟩
  | 9 => ⟨S4x1024x256x64, .f32⟩
  | 10 => ⟨S4x64x1024x256, .f32⟩
  | 11 => ⟨S4x64x1024x256, .f32⟩
  | 12 => ⟨S64x64x1x1, .f32⟩
  | 13 => ⟨S64x64, .f32⟩
  | 14 => ⟨S4x64x1024x256, .f32⟩
  | 15 => ⟨S4x1024x256x64, .f32⟩
  | 16 => ⟨S4x64x1024x256, .f32⟩
  | 17 => ⟨S4x64x1024x256, .f32⟩
  | 18 => ⟨S1x64x1x1, .f32⟩
  | 19 => ⟨S4x64x1024x256, .f32⟩
  | 20 => ⟨S4x64x1024x256, .f32⟩
  | 21 => ⟨S_, .f32⟩
  | 22 => ⟨S4x64x1024x256, .f32⟩
  | 23 => ⟨S4x64x1024x256, .f32⟩
  | 24 => ⟨S1024x1024, .i32⟩
  | 25 => ⟨S1024x1024, .i32⟩
  | 26 => ⟨S_, .i32⟩
  | 27 => ⟨S1024x1024, .i32⟩
  | 28 => ⟨S1024x1024, .i32⟩
  | 29 => ⟨S1024x1024, .i1⟩
  | 30 => ⟨S1024x1024, .f32⟩
  | 31 => ⟨S1024x1024, .f32⟩
  | 32 => ⟨S_, .f32⟩
  | 33 => ⟨S1024, .f32⟩
  | 34 => ⟨S1024x1, .f32⟩
  | 35 => ⟨S1024x1024, .f32⟩
  | 36 => ⟨S1024x1024, .f32⟩
  | 37 => ⟨S_, .f32⟩
  | 38 => ⟨S4x64x1024x256, .f32⟩
  | 39 => ⟨S4x64x1024x256, .f32⟩
  | 40 => ⟨S1024x4x64x256, .f32⟩
  | 41 => ⟨S4x64x1024x256, .f32⟩
  | 42 => ⟨S_, .f32⟩
  | 43 => ⟨S4x64x1024x256, .f32⟩
  | 44 => ⟨S4x64x1024x256, .f32⟩
  | 45 => ⟨S4x64x1024x256, .f32⟩
  | 46 => ⟨S4x128x1024x256, .f32⟩
  | 47 => ⟨S32x128, .f32⟩
  | 48 => ⟨S4x1024x256x32, .f32⟩
  | 49 => ⟨S4x32x1024x256, .f32⟩
  | 50 => ⟨S1x32x1x1, .f32⟩
  | 51 => ⟨S4x32x1024x256, .f32⟩
  | 52 => ⟨S4x32x1024x256, .f32⟩
  | 53 => ⟨S_, .f32⟩
  | 54 => ⟨S4x32x1024x256, .f32⟩
  | 55 => ⟨S4x32x1024x256, .f32⟩
  | 56 => ⟨S16x32, .f32⟩
  | 57 => ⟨S4x1024x256x16, .f32⟩
  | 58 => ⟨S4x16x1024x256, .f32⟩
  | 59 => ⟨S1x16x1x1, .f32⟩
  | 60 => ⟨S4x16x1024x256, .f32⟩
  | 61 => ⟨S4x16x1024x256, .f32⟩
  | 62 => ⟨S1x16, .f32⟩
  | 63 => ⟨S4x1024x256x1, .f32⟩
  | 64 => ⟨S4x1x1024x256, .f32⟩
  | 65 => ⟨S1x1x1x1, .f32⟩
  | 66 => ⟨S4x1x1024x256, .f32⟩
  | 67 => ⟨S4x1x1024x256, .f32⟩
  | 68 => ⟨S4x1024x256, .f32⟩
  | 69 => ⟨S4x256x1024, .f32⟩
  | _ => ⟨S4x256x1024, .f32⟩

abbrev hbmTy (i : Nat) : BufTy := match i / 128 with
  | 0 => hbmTy0_0 i
  | 1 => hbmTy0_1 i
  | 2 => hbmTy0_2 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v2 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_cst : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_cst_0 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_cst_1 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_call2_cst : Ref sig .tc := ⟨.hbm, 99, rfl⟩
abbrev main_call2_v0 : Ref sig .tc := ⟨.hbm, 100, rfl⟩
abbrev main_v28 : Ref sig .tc := ⟨.hbm, 101, rfl⟩
abbrev main_values : Ref sig .tc := ⟨.hbm, 102, rfl⟩
abbrev main_indices : Ref sig .tc := ⟨.hbm, 103, rfl⟩
abbrev main_cst_2 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_c : Ref sig .tc := ⟨.hbm, 108, rfl⟩
abbrev main_v32 : Ref sig .tc := ⟨.hbm, 109, rfl⟩
abbrev main_v33 : Ref sig .tc := ⟨.hbm, 110, rfl⟩
abbrev main_c_3 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_c_4 : Ref sig .tc := ⟨.hbm, 115, rfl⟩
abbrev main_v37 : Ref sig .tc := ⟨.hbm, 116, rfl⟩
abbrev main_v38 : Ref sig .tc := ⟨.hbm, 117, rfl⟩
abbrev main_c_5 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_cst_6 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_c_7 : Ref sig .tc := ⟨.hbm, 136, rfl⟩
abbrev main_call3_v0 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_cst_8 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_call4_cst : Ref sig .tc := ⟨.hbm, 186, rfl⟩
abbrev main_call4_v0 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_c_9 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_cst_10 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_cst_11 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_cst_12 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_call5_cst : Ref sig .tc := ⟨.hbm, 218, rfl⟩
abbrev main_call5_v0 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_c_13 : Ref sig .tc := ⟨.hbm, 227, rfl⟩
abbrev main_call6_v0 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_cst_14 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_call7_cst : Ref sig .tc := ⟨.hbm, 277, rfl⟩
abbrev main_call7_v0 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_c_15 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_cst_16 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_cst_17 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_cst_18 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_call8_cst : Ref sig .tc := ⟨.hbm, 309, rfl⟩
abbrev main_call8_v0 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩

abbrev nD : Nat := 1
abbrev τ : Topo := Topo.v7x

variable {F : FTy → Type} [FloatOps F]
-- ==== Proof.ICall0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

/-! The first kernel call as a region of the run, at any float model: its windows, what its body stores, and the proof
    that the body meets its contract at the grid point. -/

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at
variable (V : (c : Dev nD) → (b : Ref sig .tc) → Buf (Elt F) ((c : Thread nD τ).loc b))
/-! # REGION 0 of @main: custom_call 0, `cc0__graph_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the window's block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds the window's block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds the window's block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds the window's block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds the window's block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 6, through which its contents are stated (`View.read_writes_of_cover`: the
    choice does not matter). -/
abbrev VO0_6 : View sig .tc .vmem S1024x1024 .f32 := (Memref.whole cc0_stg6_0 : Memref sig .tc .vmem S1024x1024 .f32).view
/-- Each window's current staging memref at point `t`, spelled as the pipeline passes it (`bodyAt0`), and its wholeness. -/
abbrev ms0_0 (t : Fin cfg0.N) : Memref sig .tc .vmem S1024x64 .f32 := win0_0.stage (cfg0.slots t 0)
abbrev hs0_0 (t : Fin cfg0.N) : (ms0_0 t).IsWhole := hstage0_0 0
abbrev ms0_1 (t : Fin cfg0.N) : Memref sig .tc .vmem S1024x64 .f32 := win0_1.stage (cfg0.slots t 1)
abbrev hs0_1 (t : Fin cfg0.N) : (ms0_1 t).IsWhole := hstage0_1 0
abbrev ms0_2 (t : Fin cfg0.N) : Memref sig .tc .vmem S64x64 .f32 := win0_2.stage (cfg0.slots t 2)
abbrev hs0_2 (t : Fin cfg0.N) : (ms0_2 t).IsWhole := hstage0_2 0
abbrev ms0_3 (t : Fin cfg0.N) : Memref sig .tc .vmem S1x64 .f32 := win0_3.stage (cfg0.slots t 3)
abbrev hs0_3 (t : Fin cfg0.N) : (ms0_3 t).IsWhole := hstage0_3 0
abbrev ms0_4 (t : Fin cfg0.N) : Memref sig .tc .vmem S64x64 .f32 := win0_4.stage (cfg0.slots t 4)
abbrev hs0_4 (t : Fin cfg0.N) : (ms0_4 t).IsWhole := hstage0_4 0
abbrev ms0_5 (t : Fin cfg0.N) : Memref sig .tc .vmem S1x64 .f32 := win0_5.stage (cfg0.slots t 5)
abbrev hs0_5 (t : Fin cfg0.N) : (ms0_5 t).IsWhole := hstage0_5 0
abbrev ms0_6 (t : Fin cfg0.N) : Memref sig .tc .vmem S1024x1024 .f32 := win0_6.stage (cfg0.slots t 6)
abbrev hs0_6 (t : Fin cfg0.N) : (ms0_6 t).IsWhole := hstage0_6 0

-- one symbolic execution over every buffer of the region
set_option maxHeartbeats 1000000 in
/-- What the body's stores leave in each output's staging memref, as pieces (last first), WITH the
    proof that on whole staging memrefs — the inputs' at their contents, the other outputs' at
    anything, the body runs to the continuation holding the inputs' as they were,
    each output's buffer with its pieces written: the pieces are those the execution of the body finds. -/
noncomputable def kernelRun0_A (c : Dev nD) (arg0 : Memref sig .tc .vmem S1024x64 .f32) (harg0 : arg0.IsWhole) (arg1 : Memref sig .tc .vmem S1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x1024 .f32) (harg6 : arg6.IsWhole)
    (x0 : Vec F S1024x64 .f32) (x1 : Vec F S1024x64 .f32) (x2 : Vec F S64x64 .f32) (x3 : Vec F S1x64 .f32) (x4 : Vec F S64x64 .f32) (x5 : Vec F S1x64 .f32) :
    { L6 : List (View.Piece (Elt F) S1024x1024 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6)) -∗ K ⟨⟩))
          ⊢ wp frame (wpE (defs₀ (F := F)) Variants.none c none) E (cc0__graph_body arg0 harg0 arg1 harg1 arg2 harg2 arg3 harg3 arg4 harg4 arg5 harg5 arg6 harg6) K } := by
  refine ⟨?_, fun E K => ?run⟩
  case run =>
    simp only [cc0__graph_body_eq_skeleton]; unfold cc0__graph_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

/-- The run's pieces for output 6 tile its block (1 store of `S1024x1024`), so they cover it. -/
theorem cover0_A_6 (c : Dev nD) (arg0 : Memref sig .tc .vmem S1024x64 .f32) (harg0 : arg0.IsWhole) (arg1 : Memref sig .tc .vmem S1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x1024 .f32) (harg6 : arg6.IsWhole)
    (x0 : Vec F S1024x64 .f32) (x1 : Vec F S1024x64 .f32) (x2 : Vec F S64x64 .f32) (x3 : Vec F S1x64 .f32) (x4 : Vec F S64x64 .f32) (x5 : Vec F S1x64 .f32) (y : S1024x1024.Idx) :
    ∃ pc ∈ (kernelRun0_A c arg0 harg0 arg1 harg1 arg2 harg2 arg3 harg3 arg4 harg4 arg5 harg5 arg6 harg6 x0 x1 x2 x3 x4 x5).1, y ∈ pc.1.set :=
  View.cover_of_tiledL (kernelRun0_A c arg0 harg0 arg1 harg1 arg2 harg2 arg3 harg3 arg4 harg4 arg5 harg5 arg6 harg6 x0 x1 x2 x3 x4 x5).1 S1024x1024.size (by sl_kernel_rfl) y

/-- What the run leaves in output 6's staging buffer: its pieces read back over junk. -/
def out0_A_6 (c : Dev nD) (arg0 : Memref sig .tc .vmem S1024x64 .f32) (harg0 : arg0.IsWhole) (arg1 : Memref sig .tc .vmem S1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x1024 .f32) (harg6 : arg6.IsWhole)
    (x0 : Vec F S1024x64 .f32) (x1 : Vec F S1024x64 .f32) (x2 : Vec F S64x64 .f32) (x3 : Vec F S1x64 .f32) (x4 : Vec F S64x64 .f32) (x5 : Vec F S1x64 .f32) : Vec F S1024x1024 .f32 :=
  VO0_6.read (Elt F) (VO0_6.writes (Elt F) VO0_6.junk (kernelRun0_A c arg0 harg0 arg1 harg1 arg2 harg2 arg3 harg3 arg4 harg4 arg5 harg5 arg6 harg6 x0 x1 x2 x3 x4 x5).1)

/-! ## What the outputs hold after each point -/

/-- What the outputs' staging buffers hold after the body at point `t`: the run's contents at
    the point's memrefs and input blocks. -/
def outsAt0 (c : Dev nD) (t : Fin cfg0.N) : Vec F S1024x1024 .f32 :=
  out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t) (iblk0 V c 5 t)

/-! ## The pipeline's proof data -/

/-- The proof data of pipeline 0 on core `c`: the arrays as the region finds them (`V`); after the body at
    point `t` each input's buffer at its block and the outputs' at `outsAt0`; the invariant the class's
    (the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold outsAt0
  unfold out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c _ _ _ _ _ _ _ _ _ _ _ _ _ _ (iblk0 V c 0 t) (iblk0 V c 1 t) (iblk0 V c 2 t) (iblk0 V c 3 t) (iblk0 V c 4 t) (iblk0 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _)

/-- The body table's row at point `t`'s slots is the body `bodyAt0`. -/
theorem defs₀_row0 (t : Fin cfg0.N) :
    defs₀ (F := F) .tc cfg0.body (cfg0.bodyArgs t (cfg0.slots t)) = bodyAt0 t := by
  unfold defs₀; rw [Defs.onTc_tc]

/-- The body meets its contract at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Net

end
-- ==== Proof.ICall1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

/-! The second kernel call as a region of the run, at any float model: its windows, what its body stores, and the proof
    that the body meets its contract at every grid point. -/

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at
variable (V : (c : Dev nD) → (b : Ref sig .tc) → Buf (Elt F) ((c : Thread nD τ).loc b))
/-! # REGION 1 of @main: custom_call 1, `cc1__pipe_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the window's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the window's block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds the window's block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds the window's block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds the window's block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds the window's block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds the window's block at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds the window's block at every point. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds the window's block at every point. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's staging buffer holds the window's block at every point. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's staging buffer holds the window's block at every point. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's staging buffer holds the window's block at every point. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's staging buffer holds the window's block at every point. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's staging buffer holds the window's block at every point. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's staging buffer holds the window's block at every point. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's staging buffer holds the window's block at every point. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's staging buffer holds the window's block at every point. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- Input window 18's staging buffer holds the window's block at every point. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
/-- Input window 19's staging buffer holds the window's block at every point. -/
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 20, through which its contents are stated (`View.read_writes_of_cover`: the
    choice does not matter). -/
abbrev VO1_20 : View sig .tc .vmem S1x32x1024 .f32 := (Memref.whole cc1_stg20_0 : Memref sig .tc .vmem S1x32x1024 .f32).view
/-- Each window's current staging memref at point `t`, spelled as the pipeline passes it (`bodyAt1`), and its wholeness. -/
abbrev ms1_0 (t : Fin cfg1.N) : Memref sig .tc .vmem S1x268x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S7x16x16 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x16 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x16 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x32 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S7x64x64 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S64x1 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S32x64 .bf16 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S32x64 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S32x1 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S16x32 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S16x1 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x16 .bf16 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1x1 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S1x32x1024 .f32 := win1_20.stage (cfg1.slots t 20)
abbrev hs1_20 (t : Fin cfg1.N) : (ms1_20 t).IsWhole := hstage1_20 ((cfg1.slots t 20).cast nbuf1_20)

-- one symbolic execution over every buffer of the region
set_option maxHeartbeats 2000000 in
/-- What the body's stores leave in each output's staging memref, as pieces (last first), WITH the
    proof that on whole staging memrefs — the inputs' at their contents, the other outputs' at
    anything, the body runs to the continuation holding the inputs' as they were,
    each output's buffer with its pieces written: the pieces are those the execution of the body finds. -/
noncomputable def kernelRun1_A (c : Dev nD) (i : grid1.Coords) (arg2 : Memref sig .tc .vmem S1x268x1024 .f32) (harg2 : arg2.IsWhole) (arg3 : Memref sig .tc .vmem S1024x1024 .bf16) (harg3 : arg3.IsWhole) (arg4 : Memref sig .tc .vmem S16x1 .f32) (harg4 : arg4.IsWhole) (arg5 : Memref sig .tc .vmem S16x1 .f32) (harg5 : arg5.IsWhole) (arg6 : Memref sig .tc .vmem S7x16x16 .bf16) (harg6 : arg6.IsWhole) (arg7 : Memref sig .tc .vmem S16x1 .f32) (harg7 : arg7.IsWhole) (arg8 : Memref sig .tc .vmem S32x16 .bf16) (harg8 : arg8.IsWhole) (arg9 : Memref sig .tc .vmem S32x16 .bf16) (harg9 : arg9.IsWhole) (arg10 : Memref sig .tc .vmem S32x1 .f32) (harg10 : arg10.IsWhole) (arg11 : Memref sig .tc .vmem S64x32 .bf16) (harg11 : arg11.IsWhole) (arg12 : Memref sig .tc .vmem S64x1 .f32) (harg12 : arg12.IsWhole) (arg13 : Memref sig .tc .vmem S7x64x64 .bf16) (harg13 : arg13.IsWhole) (arg14 : Memref sig .tc .vmem S64x1 .f32) (harg14 : arg14.IsWhole) (arg15 : Memref sig .tc .vmem S32x64 .bf16) (harg15 : arg15.IsWhole) (arg16 : Memref sig .tc .vmem S32x64 .bf16) (harg16 : arg16.IsWhole) (arg17 : Memref sig .tc .vmem S32x1 .f32) (harg17 : arg17.IsWhole) (arg18 : Memref sig .tc .vmem S16x32 .bf16) (harg18 : arg18.IsWhole) (arg19 : Memref sig .tc .vmem S16x1 .f32) (harg19 : arg19.IsWhole) (arg20 : Memref sig .tc .vmem S1x16 .bf16) (harg20 : arg20.IsWhole) (arg21 : Memref sig .tc .vmem S1x1 .f32) (harg21 : arg21.IsWhole) (arg22 : Memref sig .tc .vmem S1x32x1024 .f32) (harg22 : arg22.IsWhole)
    (x0 : Vec F S1x268x1024 .f32) (x1 : Vec F S1024x1024 .bf16) (x2 : Vec F S16x1 .f32) (x3 : Vec F S16x1 .f32) (x4 : Vec F S7x16x16 .bf16) (x5 : Vec F S16x1 .f32) (x6 : Vec F S32x16 .bf16) (x7 : Vec F S32x16 .bf16) (x8 : Vec F S32x1 .f32) (x9 : Vec F S64x32 .bf16) (x10 : Vec F S64x1 .f32) (x11 : Vec F S7x64x64 .bf16) (x12 : Vec F S64x1 .f32) (x13 : Vec F S32x64 .bf16) (x14 : Vec F S32x64 .bf16) (x15 : Vec F S32x1 .f32) (x16 : Vec F S16x32 .bf16) (x17 : Vec F S16x1 .f32) (x18 : Vec F S1x16 .bf16) (x19 : Vec F S1x1 .f32) :
    { L20 : List (View.Piece (Elt F) S1x32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20)) -∗ K ⟨⟩))
          ⊢ wp frame (wpE (defs₀ (F := F)) Variants.none c none) E (cc1__pipe_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    rw [cc1__pipe_body_eq_skeleton]; unfold cc1__pipe_body_skel
    simp only [k1_part1_eq_skeleton, k1_part2_eq_skeleton, k1_part3_eq_skeleton, k1_part4_eq_skeleton, k1_part5_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    iexists _; iexact H20

/-- The run's pieces for output 20 tile its block (1 store of `S1x32x1024`), so they cover it. -/
theorem cover1_A_20 (c : Dev nD) (i : grid1.Coords) (arg2 : Memref sig .tc .vmem S1x268x1024 .f32) (harg2 : arg2.IsWhole) (arg3 : Memref sig .tc .vmem S1024x1024 .bf16) (harg3 : arg3.IsWhole) (arg4 : Memref sig .tc .vmem S16x1 .f32) (harg4 : arg4.IsWhole) (arg5 : Memref sig .tc .vmem S16x1 .f32) (harg5 : arg5.IsWhole) (arg6 : Memref sig .tc .vmem S7x16x16 .bf16) (harg6 : arg6.IsWhole) (arg7 : Memref sig .tc .vmem S16x1 .f32) (harg7 : arg7.IsWhole) (arg8 : Memref sig .tc .vmem S32x16 .bf16) (harg8 : arg8.IsWhole) (arg9 : Memref sig .tc .vmem S32x16 .bf16) (harg9 : arg9.IsWhole) (arg10 : Memref sig .tc .vmem S32x1 .f32) (harg10 : arg10.IsWhole) (arg11 : Memref sig .tc .vmem S64x32 .bf16) (harg11 : arg11.IsWhole) (arg12 : Memref sig .tc .vmem S64x1 .f32) (harg12 : arg12.IsWhole) (arg13 : Memref sig .tc .vmem S7x64x64 .bf16) (harg13 : arg13.IsWhole) (arg14 : Memref sig .tc .vmem S64x1 .f32) (harg14 : arg14.IsWhole) (arg15 : Memref sig .tc .vmem S32x64 .bf16) (harg15 : arg15.IsWhole) (arg16 : Memref sig .tc .vmem S32x64 .bf16) (harg16 : arg16.IsWhole) (arg17 : Memref sig .tc .vmem S32x1 .f32) (harg17 : arg17.IsWhole) (arg18 : Memref sig .tc .vmem S16x32 .bf16) (harg18 : arg18.IsWhole) (arg19 : Memref sig .tc .vmem S16x1 .f32) (harg19 : arg19.IsWhole) (arg20 : Memref sig .tc .vmem S1x16 .bf16) (harg20 : arg20.IsWhole) (arg21 : Memref sig .tc .vmem S1x1 .f32) (harg21 : arg21.IsWhole) (arg22 : Memref sig .tc .vmem S1x32x1024 .f32) (harg22 : arg22.IsWhole)
    (x0 : Vec F S1x268x1024 .f32) (x1 : Vec F S1024x1024 .bf16) (x2 : Vec F S16x1 .f32) (x3 : Vec F S16x1 .f32) (x4 : Vec F S7x16x16 .bf16) (x5 : Vec F S16x1 .f32) (x6 : Vec F S32x16 .bf16) (x7 : Vec F S32x16 .bf16) (x8 : Vec F S32x1 .f32) (x9 : Vec F S64x32 .bf16) (x10 : Vec F S64x1 .f32) (x11 : Vec F S7x64x64 .bf16) (x12 : Vec F S64x1 .f32) (x13 : Vec F S32x64 .bf16) (x14 : Vec F S32x64 .bf16) (x15 : Vec F S32x1 .f32) (x16 : Vec F S16x32 .bf16) (x17 : Vec F S16x1 .f32) (x18 : Vec F S1x16 .bf16) (x19 : Vec F S1x1 .f32) (y : S1x32x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 x19).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 x19).1 S1x32x1024.size (by sl_kernel_rfl) y

/-- What the run leaves in output 20's staging buffer: its pieces read back over junk. -/
def out1_A_20 (c : Dev nD) (i : grid1.Coords) (arg2 : Memref sig .tc .vmem S1x268x1024 .f32) (harg2 : arg2.IsWhole) (arg3 : Memref sig .tc .vmem S1024x1024 .bf16) (harg3 : arg3.IsWhole) (arg4 : Memref sig .tc .vmem S16x1 .f32) (harg4 : arg4.IsWhole) (arg5 : Memref sig .tc .vmem S16x1 .f32) (harg5 : arg5.IsWhole) (arg6 : Memref sig .tc .vmem S7x16x16 .bf16) (harg6 : arg6.IsWhole) (arg7 : Memref sig .tc .vmem S16x1 .f32) (harg7 : arg7.IsWhole) (arg8 : Memref sig .tc .vmem S32x16 .bf16) (harg8 : arg8.IsWhole) (arg9 : Memref sig .tc .vmem S32x16 .bf16) (harg9 : arg9.IsWhole) (arg10 : Memref sig .tc .vmem S32x1 .f32) (harg10 : arg10.IsWhole) (arg11 : Memref sig .tc .vmem S64x32 .bf16) (harg11 : arg11.IsWhole) (arg12 : Memref sig .tc .vmem S64x1 .f32) (harg12 : arg12.IsWhole) (arg13 : Memref sig .tc .vmem S7x64x64 .bf16) (harg13 : arg13.IsWhole) (arg14 : Memref sig .tc .vmem S64x1 .f32) (harg14 : arg14.IsWhole) (arg15 : Memref sig .tc .vmem S32x64 .bf16) (harg15 : arg15.IsWhole) (arg16 : Memref sig .tc .vmem S32x64 .bf16) (harg16 : arg16.IsWhole) (arg17 : Memref sig .tc .vmem S32x1 .f32) (harg17 : arg17.IsWhole) (arg18 : Memref sig .tc .vmem S16x32 .bf16) (harg18 : arg18.IsWhole) (arg19 : Memref sig .tc .vmem S16x1 .f32) (harg19 : arg19.IsWhole) (arg20 : Memref sig .tc .vmem S1x16 .bf16) (harg20 : arg20.IsWhole) (arg21 : Memref sig .tc .vmem S1x1 .f32) (harg21 : arg21.IsWhole) (arg22 : Memref sig .tc .vmem S1x32x1024 .f32) (harg22 : arg22.IsWhole)
    (x0 : Vec F S1x268x1024 .f32) (x1 : Vec F S1024x1024 .bf16) (x2 : Vec F S16x1 .f32) (x3 : Vec F S16x1 .f32) (x4 : Vec F S7x16x16 .bf16) (x5 : Vec F S16x1 .f32) (x6 : Vec F S32x16 .bf16) (x7 : Vec F S32x16 .bf16) (x8 : Vec F S32x1 .f32) (x9 : Vec F S64x32 .bf16) (x10 : Vec F S64x1 .f32) (x11 : Vec F S7x64x64 .bf16) (x12 : Vec F S64x1 .f32) (x13 : Vec F S32x64 .bf16) (x14 : Vec F S32x64 .bf16) (x15 : Vec F S32x1 .f32) (x16 : Vec F S16x32 .bf16) (x17 : Vec F S16x1 .f32) (x18 : Vec F S1x16 .bf16) (x19 : Vec F S1x1 .f32) : Vec F S1x32x1024 .f32 :=
  VO1_20.read (Elt F) (VO1_20.writes (Elt F) VO1_20.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 x19).1)

/-! ## What the outputs hold after each point -/

/-- What the outputs' staging buffers hold after the body at point `t`: the run's contents at
    the point's memrefs and input blocks. -/
def outsAt1 (c : Dev nD) (t : Fin cfg1.N) : Vec F S1x32x1024 .f32 :=
  out1_A_20 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t)

/-! ## The pipeline's proof data -/

/-- The proof data of pipeline 1 on core `c`: the arrays as the region finds them (`V`); after the body at
    point `t` each input's buffer at its block and the outputs' at `outsAt1`; the invariant the class's
    (the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => (outsAt1 V c t)
    | ⟨_ + 21, h⟩ => absurd h (Nat.not_lt.2 (Nat.le_add_left _ _))
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = (outsAt1 V c t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t))

set_option maxHeartbeats 2000000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20]
  unfold outsAt1
  unfold out1_A_20
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun1_A c (grid1.coords t) _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  unfold owns; iexists _; isplitr
  swap; · iexact H20
  ipureintro; exact View.read_writes_of_cover _ _ _ _ _ (cover1_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Regions

end Cert.KernelIdeal.Net

end
-- ==== Proof.IStep1.lean ====
module

public import proofs.«01_k».proof.Proof.ICall1

@[expose] public section

/-! The second kernel call meets the obligation of its region at every grid point. -/

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at
variable (V : (c : Dev nD) → (b : Ref sig .tc) → Buf (Elt F) ((c : Thread nD τ).loc b))

/-- The body table's row at point `t`'s slots is the body `bodyAt1`. -/
theorem defs₀_row1 (t : Fin cfg1.N) :
    defs₀ (F := F) .tc cfg1.body (cfg1.bodyArgs t (cfg1.slots t)) = bodyAt1 t := by
  unfold defs₀; rw [Defs.onTc_tc]

/-- The body meets its contract at every point. -/
theorem body_obligation1 (c : Dev nD) : BodyObligation (dat1 (F := F) V c) (defs₀ (F := F)) Variants.none () Set.univ := fun t => by
  rw [bigSep_W1, bigSep_W1, defs₀_row1]
  refine triple_restated (sound_body1 V c t) rfl .rfl fun _ => ?_
  unfold bodyPost1
  have hi : ∀ w i, cfg1.idle w i = false := fun _ _ => rfl
  simp only [hi]
  exact .rfl

end Regions

end Cert.KernelIdeal.Net

end
-- ==== Proof.IRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.ICall0
public import proofs.«01_k».proof.Proof.IStep1

@[expose] public section

/-! The whole run of @main: the buffer contents at every boundary between its segments, and the run itself. -/

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call2_v0, main_v5]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v6, main_v7, main_v8, main_v9, main_v10, main_v11, main_v12, main_v13, main_v14, main_v15, main_cst, main_v16, main_v17, main_v18, main_v19, main_v20, main_cst_0, main_v21, main_v22, main_v23, main_v24, main_v25, main_v26, main_cst_1, main_v27, main_v28, main_v29, main_v30, main_v31, main_cst_2, main_v32, main_v33, main_v34, main_v35, main_v36, main_v37, main_v38, main_v39, main_v40, main_v41, main_v42, main_v43, main_v44, main_v45, main_v46, main_v47, main_v48, main_v49, main_v50]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): what re-assembling the buffers after the region asks for. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- After `hostOps1_1`. -/
abbrev W6 : Dev nD → Valuation τ sig (Elt F) := fun c => StableHlo.after hostOps1_1 (W5 m ρ c)
/-- A reference `hostOps1_1` does not write keeps its contents across it. -/
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W6_args (c : Dev nD) : ∀ a ∈ argRefs, W6 m ρ c (Proc.devRef .tc a) = m ((c : Thread nD τ).loc a) :=
  fun a ha => (W6_of m ρ c a (hostOps1_1_args a ha)).trans (W5_args m ρ c a ha)
/-- After `hostOps1_2` (region 1's entry). -/
abbrev W7 : Dev nD → Valuation τ sig (Elt F) := fun c => StableHlo.after hostOps1_2 (W6 m ρ c)
/-- A reference `hostOps1_2` does not write keeps its contents across it. -/
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
theorem W7_args (c : Dev nD) : ∀ a ∈ argRefs, W7 m ρ c (Proc.devRef .tc a) = m ((c : Thread nD τ).loc a) :=
  fun a ha => (W7_of m ρ c a (hostOps1_2_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): what re-assembling the buffers after the region asks for. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
theorem W8_main_arg10 (c : Dev nD) : W8 m ρ c (Proc.devRef .tc main_arg10) = m ((c : Thread nD τ).loc main_arg10) :=
  W8_args m ρ c main_arg10 (by decide)
theorem W8_main_arg11 (c : Dev nD) : W8 m ρ c (Proc.devRef .tc main_arg11) = m ((c : Thread nD τ).loc main_arg11) :=
  W8_args m ρ c main_arg11 (by decide)
theorem W8_main_arg12 (c : Dev nD) : W8 m ρ c (Proc.devRef .tc main_arg12) = m ((c : Thread nD τ).loc main_arg12) :=
  W8_args m ρ c main_arg12 (by decide)
theorem W8_main_arg13 (c : Dev nD) : W8 m ρ c (Proc.devRef .tc main_arg13) = m ((c : Thread nD τ).loc main_arg13) :=
  W8_args m ρ c main_arg13 (by decide)
theorem W8_main_arg14 (c : Dev nD) : W8 m ρ c (Proc.devRef .tc main_arg14) = m ((c : Thread nD τ).loc main_arg14) :=
  W8_args m ρ c main_arg14 (by decide)
theorem W8_main_arg15 (c : Dev nD) : W8 m ρ c (Proc.devRef .tc main_arg15) = m ((c : Thread nD τ).loc main_arg15) :=
  W8_args m ρ c main_arg15 (by decide)
theorem W8_main_arg16 (c : Dev nD) : W8 m ρ c (Proc.devRef .tc main_arg16) = m ((c : Thread nD τ).loc main_arg16) :=
  W8_args m ρ c main_arg16 (by decide)
theorem W8_main_arg17 (c : Dev nD) : W8 m ρ c (Proc.devRef .tc main_arg17) = m ((c : Thread nD τ).loc main_arg17) :=
  W8_args m ρ c main_arg17 (by decide)
theorem W8_main_arg18 (c : Dev nD) : W8 m ρ c (Proc.devRef .tc main_arg18) = m ((c : Thread nD τ).loc main_arg18) :=
  W8_args m ρ c main_arg18 (by decide)
theorem W8_main_arg19 (c : Dev nD) : W8 m ρ c (Proc.devRef .tc main_arg19) = m ((c : Thread nD τ).loc main_arg19) :=
  W8_args m ρ c main_arg19 (by decide)
theorem W8_main_arg20 (c : Dev nD) : W8 m ρ c (Proc.devRef .tc main_arg20) = m ((c : Thread nD τ).loc main_arg20) :=
  W8_args m ρ c main_arg20 (by decide)
theorem W8_main_arg21 (c : Dev nD) : W8 m ρ c (Proc.devRef .tc main_arg21) = m ((c : Thread nD τ).loc main_arg21) :=
  W8_args m ρ c main_arg21 (by decide)
theorem W8_main_arg22 (c : Dev nD) : W8 m ρ c (Proc.devRef .tc main_arg22) = m ((c : Thread nD τ).loc main_arg22) :=
  W8_args m ρ c main_arg22 (by decide)
theorem W8_main_arg23 (c : Dev nD) : W8 m ρ c (Proc.devRef .tc main_arg23) = m ((c : Thread nD τ).loc main_arg23) :=
  W8_args m ρ c main_arg23 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents by its number. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a
    region takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (beside it the core owes nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    region's invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W7`, left at `W8`
    (what the launch reads at the end). Its arrays split out of the unscoped buffers
    (`arrays_of_unscopedBufs`) and put back at the exit contents (`unscopedBufs_of_arrays`); the generator register into the
    region's invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ) ]
/-- @main IS the run of the segments: `Gen.main_chain`. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every weakly fair execution of @main on the TensorCores terminates without a
    fault, the argument arrays end as launched, every semaphore counter ends at zero, and the result array holds what the last
    boundary's contents say. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0)
      ∧ ∀ c : Dev nD, r.2.mem ((c.tc : Thread nD τ).loc main_v51) = W8 m ρ c (Proc.devRef .tc main_v51)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨⟨(fun c =>
      ⟨(h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c)⟩), funext fun g => hz g (.inr (no_unscoped g.2))⟩, fun c => h c _ (mem_uc main_v51 (by decide))⟩)

/-- The frame claim: every execution terminates without a fault, the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun _ h => h.1) (run m ρ)

end Cert.KernelIdeal.Net

end
-- ==== Proof.Host.lean ====
module

public import proofs.«01_k».proof.Proof.IRun
public import Idealize.ShloMosaic.Lib.Pipeline.Value
public import Idealize.ShloMosaic.Lib.Pipeline.ValueKit
public import Idealize.ShloMosaic.Lib.Pointwise
public import Idealize.ShloMosaic.Lib.KernelVsHost
public import proofs.«01_k».proof.Proof.Gen.ReferenceIdeal.Read

@[expose] public section

set_option maxRecDepth 16384

noncomputable section

namespace Cert.KernelIdeal.Net

open Cert.KernelIdeal Cert.KernelIdeal.Gen
open Idealize.ShloMosaic Idealize.ShloMosaic.TcCoe Idealize.ShloMosaic.Tactic Idealize.SL.Sem

variable (W : Valuation τ sig (Elt Ideal))

theorem host_v9 (k : Fin 7) (o i : Fin 16) : (StableHlo.after hostOps1_2 W (Proc.devRef .tc main_v9) : Vec Ideal S7x16x16 .bf16) (ix3 k o i)
    = (W (Proc.devRef .tc main_arg10) : Vec Ideal S16x16x1x7 .f32) (ix4 o i 0 k) := by
  after_results
  pointwise []

theorem host_v12 (k : Fin 7) (o i : Fin 64) : (StableHlo.after hostOps1_2 W (Proc.devRef .tc main_v12) : Vec Ideal S7x64x64 .bf16) (ix3 k o i)
    = (W (Proc.devRef .tc main_arg16) : Vec Ideal S64x64x1x7 .f32) (ix4 o i 0 k) := by
  after_results
  pointwise []

theorem host_v19 (o : Fin 32) (i : Fin 16) : (StableHlo.after hostOps1_2 W (Proc.devRef .tc main_v19) : Vec Ideal S32x16 .bf16) (ix2 o i)
    = @HAdd.hAdd EReal EReal EReal _ ((W (Proc.devRef .tc main_arg12) : Vec Ideal S32x32x1x1 .f32) (ix4 o (Fin.castAdd 16 i) 0 0)) (Ideal.ofBits .f32 0x3D4CCCCD#32 * (W (Proc.devRef .tc main_arg12) : Vec Ideal S32x32x1x1 .f32) (ix4 o (Fin.natAdd 16 i) 0 0)) := by
  after_results
  pointwise []
  rfl

theorem host_v23 (o : Fin 32) (i : Fin 16) : (StableHlo.after hostOps1_2 W (Proc.devRef .tc main_v23) : Vec Ideal S32x16 .bf16) (ix2 o i)
    = Ideal.ofBits .f32 0x3F733333#32 * (W (Proc.devRef .tc main_arg12) : Vec Ideal S32x32x1x1 .f32) (ix4 o (Fin.natAdd 16 i) 0 0) := by
  after_results
  pointwise []
  rfl

theorem host_v30 (o : Fin 32) (i : Fin 64) : (StableHlo.after hostOps1_2 W (Proc.devRef .tc main_v30) : Vec Ideal S32x64 .bf16) (ix2 o i)
    = @HAdd.hAdd EReal EReal EReal _ ((W (Proc.devRef .tc main_arg18) : Vec Ideal S32x128x1x1 .f32) (ix4 o (Fin.castAdd 64 i) 0 0)) (Ideal.ofBits .f32 0x3D4CCCCD#32 * (W (Proc.devRef .tc main_arg18) : Vec Ideal S32x128x1x1 .f32) (ix4 o (Fin.natAdd 64 i) 0 0)) := by
  after_results
  pointwise []
  rfl

theorem host_v34 (o : Fin 32) (i : Fin 64) : (StableHlo.after hostOps1_2 W (Proc.devRef .tc main_v34) : Vec Ideal S32x64 .bf16) (ix2 o i)
    = Ideal.ofBits .f32 0x3F733333#32 * (W (Proc.devRef .tc main_arg18) : Vec Ideal S32x128x1x1 .f32) (ix4 o (Fin.natAdd 64 i) 0 0) := by
  after_results
  pointwise []
  rfl

theorem host_v36 (o : Fin 64) (i : Fin 32) : (StableHlo.after hostOps1_2 W (Proc.devRef .tc main_v36) : Vec Ideal S64x32 .bf16) (ix2 o i)
    = (W (Proc.devRef .tc main_arg14) : Vec Ideal S64x32x1x1 .f32) (ix4 o i 0 0) := by
  after_results
  pointwise []

theorem host_v38 (o : Fin 16) (i : Fin 32) : (StableHlo.after hostOps1_2 W (Proc.devRef .tc main_v38) : Vec Ideal S16x32 .bf16) (ix2 o i)
    = (W (Proc.devRef .tc main_arg20) : Vec Ideal S16x32x1x1 .f32) (ix4 o i 0 0) := by
  after_results
  pointwise []

theorem host_v40 (o : Fin 1) (i : Fin 16) : (StableHlo.after hostOps1_2 W (Proc.devRef .tc main_v40) : Vec Ideal S1x16 .bf16) (ix2 o i)
    = (W (Proc.devRef .tc main_arg22) : Vec Ideal S1x16x1x1 .f32) (ix4 o i 0 0) := by
  obtain rfl : o = 0 := Subsingleton.elim _ _
  after_results
  pointwise []

theorem host_v42 (o : Fin 16) : (StableHlo.after hostOps1_2 W (Proc.devRef .tc main_v42) : Vec Ideal S16x1 .f32) (ix2 o 0)
    = (W (Proc.devRef .tc main_arg8) : Vec Ideal S16x1x1x1 .f32) (ix4 o 0 0 0) := by
  after_results
  pointwise []

theorem host_v43 (o : Fin 16) : (StableHlo.after hostOps1_2 W (Proc.devRef .tc main_v43) : Vec Ideal S16x1 .f32) (ix2 o 0)
    = (W (Proc.devRef .tc main_arg9) : Vec Ideal S16 .f32) (ix1 o) := by
  after_results
  pointwise []

theorem host_v44 (o : Fin 16) : (StableHlo.after hostOps1_2 W (Proc.devRef .tc main_v44) : Vec Ideal S16x1 .f32) (ix2 o 0)
    = (W (Proc.devRef .tc main_arg11) : Vec Ideal S16 .f32) (ix1 o) := by
  after_results
  pointwise []

theorem host_v45 (o : Fin 32) : (StableHlo.after hostOps1_2 W (Proc.devRef .tc main_v45) : Vec Ideal S32x1 .f32) (ix2 o 0)
    = (W (Proc.devRef .tc main_arg13) : Vec Ideal S32 .f32) (ix1 o) := by
  after_results
  pointwise []

theorem host_v46 (o : Fin 64) : (StableHlo.after hostOps1_2 W (Proc.devRef .tc main_v46) : Vec Ideal S64x1 .f32) (ix2 o 0)
    = (W (Proc.devRef .tc main_arg15) : Vec Ideal S64 .f32) (ix1 o) := by
  after_results
  pointwise []

theorem host_v47 (o : Fin 64) : (StableHlo.after hostOps1_2 W (Proc.devRef .tc main_v47) : Vec Ideal S64x1 .f32) (ix2 o 0)
    = (W (Proc.devRef .tc main_arg17) : Vec Ideal S64 .f32) (ix1 o) := by
  after_results
  pointwise []

theorem host_v48 (o : Fin 32) : (StableHlo.after hostOps1_2 W (Proc.devRef .tc main_v48) : Vec Ideal S32x1 .f32) (ix2 o 0)
    = (W (Proc.devRef .tc main_arg19) : Vec Ideal S32 .f32) (ix1 o) := by
  after_results
  pointwise []

theorem host_v49 (o : Fin 16) : (StableHlo.after hostOps1_2 W (Proc.devRef .tc main_v49) : Vec Ideal S16x1 .f32) (ix2 o 0)
    = (W (Proc.devRef .tc main_arg21) : Vec Ideal S16 .f32) (ix1 o) := by
  after_results
  pointwise []

theorem host_v50 (o : Fin 1) : (StableHlo.after hostOps1_2 W (Proc.devRef .tc main_v50) : Vec Ideal S1x1 .f32) (ix2 o 0)
    = (W (Proc.devRef .tc main_arg23) : Vec Ideal S1 .f32) (ix1 o) := by
  obtain rfl : o = 0 := Subsingleton.elim _ _
  after_results
  pointwise []

theorem host_v6 (v w : Fin 1024) : (StableHlo.after hostOps1_2 W (Proc.devRef .tc main_v6) : Vec Ideal S1024x1024 .bf16) (ix2 v w)
    = (W (Proc.devRef .tc main_v4) : Vec Ideal S1024x1024 .f32) (ix2 v w) := by
  after_results
  pointwise []

theorem host_v5 (b : Fin 4) (j : Fin 268) (n : Fin 1024) : (StableHlo.after hostOps1_1 W (Proc.devRef .tc main_v5) : Vec Ideal S4x268x1024 .f32) (ix3 b j n)
    = if h : 6 ≤ j.val ∧ j.val < 262 then (W (Proc.devRef .tc main_arg0) : Vec Ideal S4x256x1024 .f32) (ix3 b ⟨j.val - 6, by omega⟩ n)
      else sitofp (F := Ideal) .f32 (W (Proc.devRef .tc main_c) : Vec Ideal S_ .i32) (Shape.Idx.first h_S_) := by
  after_results
  refine (show _ = pad S4x268x1024 ![0, 6, 0] ![0, 6, 0] ![0, 0, 0] (W (Proc.devRef .tc main_arg0) : Vec Ideal S4x256x1024 .f32)
    (sitofp (F := Ideal) .f32 (W (Proc.devRef .tc main_c) : Vec Ideal S_ .i32)) pads_S4x256x1024_S4x268x1024_000_660_000 h_S_ (ix3 b j n) from rfl).trans ?_
  by_cases h : 6 ≤ j.val ∧ j.val < 262
  · rw [dif_pos h]
    refine pad_apply_of_inside _ _ _ _ _ _ _ _ _ fun a => ?_
    match a with
    | 0 => simp
    | 1 => simp; omega
    | 2 => simp
  · rw [dif_neg h]
    refine pad_apply_of_not_inside _ _ _ _ _ _ _ _ 1 fun h' => h ?_
    simp at h'
    omega

theorem host_v0 : (StableHlo.after hostOps0 W (Proc.devRef .tc main_v0) : Vec Ideal S1024x64 .f32)
    = Cert.ReferenceIdeal.Read.val_main_v2 (F := Ideal) (W (Proc.devRef .tc main_arg1)) (W (Proc.devRef .tc main_arg2)) := by
  after_results
  rfl

theorem host_v1 : (StableHlo.after hostOps0_1 W (Proc.devRef .tc main_v1) : Vec Ideal S1024x64 .f32)
    = Cert.ReferenceIdeal.Read.val_main_v3 (F := Ideal) (W (Proc.devRef .tc main_arg1)) (W (Proc.devRef .tc main_arg3)) := by
  after_results
  rfl

theorem host_v2 (i : Fin 64) : (StableHlo.after hostOps0_2 W (Proc.devRef .tc main_v2) : Vec Ideal S1x64 .f32) (ix2 0 i)
    = (W (Proc.devRef .tc main_arg5) : Vec Ideal S64 .f32) (ix1 i) := by
  after_results
  pointwise []

theorem host_v3 (i : Fin 64) : (StableHlo.after hostOps0_2 W (Proc.devRef .tc main_v3) : Vec Ideal S1x64 .f32) (ix2 0 i)
    = (W (Proc.devRef .tc main_arg7) : Vec Ideal S64 .f32) (ix1 i) := by
  after_results
  pointwise []

theorem host_c : (StableHlo.after hostOps1 W (Proc.devRef .tc main_c) : Vec Ideal S_ .i32) = constantI S_ 32 0#32 := by
  after_results

end Cert.KernelIdeal.Net
end
-- ==== Proof.Pick.lean ====
module

public import Idealize.ShloMosaic.Lib.SortPrefix
public import Idealize.ShloMosaic.Lib.SortFacts
public import Idealize.ShloMosaic.Lib.Pipeline.Value
public import Idealize.ShloMosaic.Lib.Pipeline.ValueKit
public import Idealize.ShloMosaic.Lib.Pointwise

@[expose] public section

/-! The entries of a row from the greatest down, equal ones by position: the order that a stable descending sort leaves, and the
    place of each entry in it. Taking the first greatest entry over and over walks the row in that order. -/

set_option maxRecDepth 16384

noncomputable section

namespace Cert.Net

open Idealize.ShloMosaic Idealize.ShloMosaic.ValueIdx

variable {N : ℕ} (a : Fin N → EReal)

/-- `u` comes before `w`: its entry is greater, or equal at a lower position. -/
def before (u w : Fin N) : Bool := decide (a w < a u) || (decide (a u = a w) && decide (u < w))

/-- That order is strict and total. -/
theorem before_total : StrictTotalBefore (before a) :=
  StrictTotalBefore.of_key_then_position (fun x y : EReal => decide (y < x)) a (by simp)
    (fun x y z h h' => by simp only [decide_eq_true_eq] at *; exact h'.trans h)
    (fun x y => by simp only [decide_eq_true_eq]; rcases lt_trichotomy x y with h | h | h <;> simp [h])

/-- The position whose entry is the `k`-th from the top. -/
def order (k : Fin N) : Fin N := sortedFrom (before a) k

/-- Positions and places correspond one to one. -/
def places : Fin N ≃ Fin N :=
  Equiv.ofBijective (order a) ⟨sortedFrom_injective _, sortedFrom_surjective _⟩

/-- The place of position `w` from the top. -/
def place (w : Fin N) : Fin N := (places a).symm w

theorem order_place (w : Fin N) : order a (place a w) = w := (places a).apply_symm_apply w

theorem place_order (k : Fin N) : place a (order a k) = k := (places a).symm_apply_apply k

/-- A position that comes before another has the lower place. -/
theorem place_lt {u w : Fin N} (h : before a u w = true) : place a u < place a w := by
  by_contra hn
  rcases lt_or_eq_of_le (not_lt.mp hn) with hl | he
  · have := sortedFrom_noInversion (before a) (before a) (fun _ _ h => (before_total a).asymm _ _ h) (fun _ _ h => h)
      (fun _ _ _ h h' => (before_total a).negTrans _ _ _ h h') _ _ hl
    change before a (order a (place a u)) (order a (place a w)) = false at this
    rw [order_place, order_place, h] at this
    cases this
  · have : w = u := (places a).symm.injective he
    subst this
    rw [(before_total a).irrefl w] at h
    cases h

/-- Sorting by "greater" alone, stably, is sorting by this order. -/
theorem stableSort_greater : ∀ l : List (Fin N), l.Pairwise (· < ·) →
    stableSort (fun u w => decide (a w < a u)) l = stableSort (before a) l := by
  intro l
  induction l with
  | nil => intro _; rfl
  | cons x l ih =>
    intro hl
    rw [List.pairwise_cons] at hl
    unfold stableSort
    rw [ih hl.2]
    refine insertBefore_congr _ _ _ _ fun b hb => ?_
    have hb' : b ∈ l := (perm_stableSort _ _).mem_iff.mp hb
    have := hl.1 b hb'
    simp [before, not_lt.mpr this.le]

theorem sortedFrom_greater (k : Fin N) : sortedFrom (fun u w => decide (a w < a u)) k = order a k := by
  have e : sortPositions N (fun u w => decide (a w < a u)) = sortPositions N (before a) :=
    stableSort_greater a _ (List.pairwise_lt_finRange N)
  unfold order sortedFrom
  rw [List.get_eq_getElem, List.get_eq_getElem]
  simp only [Fin.val_cast]
  exact List.getElem_of_eq e _

/-- A row after `n` of its greatest entries were taken, each set to `-1`. -/
def taken (n : ℕ) (w : Fin N) : EReal := if (place a w).val < n then -1 else a w

/-- Which entries were taken, as ones and zeros. -/
def picked (n : ℕ) (w : Fin N) : EReal := if (place a w).val < n then 1 else 0

/-- The entry taken next is a greatest one of what is left. -/
theorem taken_le (ha : ∀ w, 0 ≤ a w) (n : Fin N) (w : Fin N) : taken a n w ≤ taken a n (order a n) := by
  have h1 : taken a n (order a n) = a (order a n) := by unfold taken; rw [place_order, if_neg (lt_irrefl _)]
  rw [h1]
  unfold taken
  split
  · exact le_trans (by norm_num) (ha _)
  · next h =>
    by_contra hc
    have hb : before a w (order a n) = true := by unfold before; simp [not_le.mp hc]
    have := place_lt a hb
    rw [place_order] at this
    exact h this

/-- … and the first of the greatest ones. -/
theorem taken_first (ha : ∀ w, 0 ≤ a w) (n : Fin N) (w : Fin N) (h : taken a n w = taken a n (order a n)) : order a n ≤ w := by
  have h1 : taken a n (order a n) = a (order a n) := by unfold taken; rw [place_order, if_neg (lt_irrefl _)]
  rw [h1] at h
  unfold taken at h
  split at h
  · have h0 := ha (order a n)
    rw [← h] at h0
    exact absurd h0 (by norm_num)
  · next hn =>
    by_contra hc
    have hb : before a w (order a n) = true := by unfold before; simp [h, not_le.mp hc]
    have := place_lt a hb
    rw [place_order] at this
    exact hn this

theorem place_lt_succ (n : Fin N) (w : Fin N) : (place a w).val < n.val + 1 ↔ w = order a n ∨ (place a w).val < n.val := by
  constructor
  · intro h
    rcases Nat.lt_succ_iff_lt_or_eq.mp h with h | h
    · exact Or.inr h
    · left
      rw [← Fin.ext h, order_place]
  · rintro (rfl | h)
    · rw [place_order]; omega
    · omega

theorem taken_succ (n : Fin N) (w : Fin N) : taken a (n + 1) w = if w = order a n then -1 else taken a n w := by
  unfold taken
  simp only [place_lt_succ]
  by_cases h : w = order a n <;> simp [h]

theorem picked_succ (n : Fin N) (w : Fin N) : picked a (n + 1) w = if w = order a n then 1 else picked a n w := by
  unfold picked
  simp only [place_lt_succ]
  by_cases h : w = order a n <;> simp [h]

end Cert.Net

end
-- ==== Proof.Graph.lean ====
/- The first launch's computation, read at an index: the scores between nodes, the loop that takes the greatest score of
   every row thirty times over, and the matrix with self loops, each row divided by its sum. -/
module

public import proofs.«01_k».proof.Proof.Pick
public import proofs.«01_k».proof.Proof.Gen.KernelIdeal.Skeleton
public import Idealize.ShloMosaic.Lib.Exec.Context

@[expose] public section

set_option maxRecDepth 16384

noncomputable section

namespace Cert.Net

open Idealize.ShloMosaic Idealize.ShloMosaic.ValueIdx

/-- The number three, as its 32-bit float. -/
abbrev three : EReal := Ideal.ofBits FTy.f32 0x40400000#32

/-- A node's vector after its affine map: `tanh (3 (row · W i + b i))`. -/
def nodes (row : Fin 1024 → Fin 64 → EReal) (W : Fin 64 → Fin 64 → EReal) (b : Fin 64 → EReal) (v : Fin 1024) (i : Fin 64) : EReal :=
  Ideal.tanh (three * ((∑ k, row v k * W i k) + b i))

/-- The score of `w` for `v`: `max (tanh (3 (n₁ v · n₂ w − n₂ v · n₁ w))) 0`. -/
def score (n1 n2 : Fin 1024 → Fin 64 → EReal) (v w : Fin 1024) : EReal :=
  max (Ideal.tanh (three * ((∑ i, n1 v i * n2 w i) - ∑ i, n2 v i * n1 w i))) 0

/-- A row's thirty greatest scores, the others zero, and one added on the diagonal. -/
def looped (a : Fin 1024 → Fin 1024 → EReal) (v w : Fin 1024) : EReal :=
  a v w * picked (a v) 30 w + if v = w then 1 else 0

/-- … every row divided by its sum. -/
def norm (a : Fin 1024 → Fin 1024 → EReal) (v w : Fin 1024) : EReal := Ideal.div (looped a v w) (∑ u, looped a v u)

/-- The least of the positions that hold, the others reading 1024. -/
theorem fold_first (P : Fin 1024 → Prop) [DecidablePred P] (p : Fin 1024) (hp : P p) (hl : ∀ w, P w → p ≤ w) :
    Finset.fold IntOp.minsi (2147483647#32) (fun k : Fin 1024 => if P k then BitVec.ofNat 32 k.val else 1024#32) Finset.univ
      = BitVec.ofNat 32 p.val := by
  have hm : ∀ x y : BitVec 32, (IntOp.minsi x y).toInt = min x.toInt y.toInt := by
    intro x y
    unfold IntOp.minsi
    rw [BitVec.slt_eq_decide]
    by_cases h : x.toInt < y.toInt
    · simp [h, min_eq_left h.le]
    · simp [h, min_eq_right (not_lt.mp h)]
  have hn : ∀ k : Fin 1024, (BitVec.ofNat 32 k.val).toInt = (k.val : ℤ) := fun k => by
    rw [BitVec.toInt_ofNat', Int.bmod_eq_of_le (by omega) (by omega)]
  apply BitVec.eq_of_toInt_eq
  rw [← Finset.fold_hom (op' := (min : ℤ → ℤ → ℤ)) (m := BitVec.toInt) hm, hn]
  apply le_antisymm
  · rw [Finset.fold_min_le]
    right
    exact ⟨p, Finset.mem_univ _, by rw [if_pos hp, hn]⟩
  · rw [Finset.le_fold_min]
    refine ⟨by rw [show (2147483647#32).toInt = 2147483647 by decide]; omega, fun w _ => ?_⟩
    by_cases h : P w
    · rw [if_pos h, hn]
      exact_mod_cast hl w h
    · rw [if_neg h, show (1024#32).toInt = 1024 by decide]
      omega

/-- Two positions' words are equal exactly when the positions are. -/
theorem eq_word (v w : Fin 1024) : IntOp.cmpi CmpIPredicate.eq (BitVec.ofNat 32 v.val) (BitVec.ofNat 32 w.val) = BitVec.ofBool (decide (v = w)) := by
  have : (BitVec.ofNat 32 v.val = BitVec.ofNat 32 w.val) ↔ v = w := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  show BitVec.ofBool (decide (BitVec.ofNat 32 v.val = BitVec.ofNat 32 w.val)) = _
  simp only [this]

theorem select_word {α : Type} (p : Prop) [Decidable p] (x y : α) : Scalar.select (BitVec.ofBool (decide p)) x y = if p then x else y := by
  by_cases h : p <;> simp [h, Scalar.select]

theorem neg_one : Ideal.ofBits FTy.f32 0xBF800000#32 = (-1 : EReal) := by
  rw [show (-1 : EReal) = ((-(1 : ℝ)) : EReal) by simp]
  simp [Ideal.ofBits, Ideal.ieee, -EReal.coe_mul, -EReal.coe_neg]; norm_num

end Cert.Net

namespace Cert.KernelIdeal.Graph

open Cert.KernelIdeal Cert.KernelIdeal.Gen Cert.Net
open Idealize.ShloMosaic Idealize.ShloMosaic.TcCoe Idealize.SL.Sem

/-- The scores. -/
theorem pay2_at (v0 : Vec Ideal S1024x64 .f32) (v2 : Vec Ideal S64x64 .f32) (v4 : Vec Ideal S1x64 .f32) (v11 : Vec Ideal S1024x64 .f32)
    (v13 : Vec Ideal S64x64 .f32) (v15 : Vec Ideal S1x64 .f32) (v w : Fin 1024) :
    k0_pay2 (F := Ideal) v0 v2 v4 v11 v13 v15 (ix2 v w)
      = score (nodes (fun v k => v0 (ix2 v k)) (fun i k => v2 (ix2 i k)) fun i => v4 (ix2 0 i))
          (nodes (fun v k => v11 (ix2 v k)) (fun i k => v13 (ix2 i k)) fun i => v15 (ix2 0 i)) v w := by
  pointwise [k0_pay2]
  rfl

/-- One trip's choice: the first greatest entry of every row. -/
theorem pay4_at (x : FVec Ideal S1024x1024 .f32) (v p : Fin 1024) (hmax : ∀ w, x (ix2 v w) ≤ x (ix2 v p))
    (hfirst : ∀ w, x (ix2 v w) = x (ix2 v p) → p ≤ w) (w : Fin 1024) :
    k0_pay4 (F := Ideal) x (ix2 v w) = BitVec.ofBool (decide (w = p)) := by
  have hM : Finset.fold max (Ideal.ofBits FTy.f32 0xFF800000#32) (fun k : Fin 1024 => x (ix2 v k)) Finset.univ = x (ix2 v p) := by
    apply le_antisymm
    · rw [Finset.fold_max_le]
      exact ⟨by simp [Ideal.ofBits, Ideal.ieee], fun w _ => hmax w⟩
    · rw [Finset.le_fold_max]
      right
      exact ⟨p, Finset.mem_univ _, le_rfl⟩
  pointwise [k0_pay4]
  rw [hM, fold_first (fun k => x (ix2 v k) = x (ix2 v p)) p rfl hfirst, eq_word]

/-- One trip of the loop: from the state after `n` trips to the state after `n + 1`. -/
theorem trip_at (a : Fin 1024 → Fin 1024 → EReal) (ha : ∀ v w, 0 ≤ a v w) (x y : FVec Ideal S1024x1024 .f32) (n : ℕ) (hn : n < 1024)
    (hx : ∀ v w, x (ix2 v w) = taken (a v) n w) (hy : ∀ v w, y (ix2 v w) = picked (a v) n w) (v w : Fin 1024) :
    k0_pay6 (F := Ideal) x (ix2 v w) = taken (a v) (n + 1) w ∧ k0_pay5 (F := Ideal) x y (ix2 v w) = picked (a v) (n + 1) w := by
  have h4 := pay4_at x v (order (a v) ⟨n, hn⟩) (fun u => by rw [hx, hx]; exact taken_le (a v) (ha v) ⟨n, hn⟩ u)
    (fun u => by rw [hx, hx]; exact taken_first (a v) (ha v) ⟨n, hn⟩ u) w
  constructor
  · pointwise [k0_pay6]
    rw [h4, select_word, hx, neg_one]
    exact (taken_succ (a v) ⟨n, hn⟩ w).symm
  · pointwise [k0_pay5]
    rw [h4, select_word, hy]
    exact (picked_succ (a v) ⟨n, hn⟩ w).symm

/-- Any number of trips, from the scores and zeros. -/
theorem trips_at (a : Fin 1024 → Fin 1024 → EReal) (ha : ∀ v w, 0 ≤ a v w) {T : Type} (l : List T) :
    ∀ (n : ℕ) (x y : FVec Ideal S1024x1024 .f32), n + l.length ≤ 1024 →
      (∀ v w, x (ix2 v w) = taken (a v) n w) → (∀ v w, y (ix2 v w) = picked (a v) n w) → ∀ v w,
      (l.foldl (fun (s : FVec Ideal S1024x1024 .f32 × FVec Ideal S1024x1024 .f32) (_ : T) => (k0_pay6 s.1, k0_pay5 s.1 s.2)) (x, y)).2 (ix2 v w)
        = picked (a v) (n + l.length) w := by
  induction l with
  | nil => intro n x y _ _ hy v w; exact hy v w
  | cons t l ih =>
    intro n x y hn hx hy v w
    rw [List.length_cons] at hn
    rw [List.foldl_cons, ih (n + 1) _ _ (by omega) (fun v w => (trip_at a ha x y n (by omega) hx hy v w).1)
      (fun v w => (trip_at a ha x y n (by omega) hx hy v w).2) v w, List.length_cons, show n + 1 + l.length = n + (l.length + 1) by omega]

/-- The last division. -/
theorem pay1_at (y : FVec Ideal S1024x1024 .f32) (a : Fin 1024 → Fin 1024 → EReal) (hy : ∀ v w, y (ix2 v w) = a v w * picked (a v) 30 w)
    (v w : Fin 1024) :
    k0_pay1 (F := Ideal) (iota Kind.tc S1024x1024 32 [1] iota_S1024x1024_d1_w32) y (iota Kind.tc S1024x1024 32 [0] iota_S1024x1024_d0_w32) (ix2 v w)
      = norm a v w := by
  pointwise [k0_pay1]
  simp only [eq_word, select_word, hy]
  rfl

/-- The whole launch: the rows of the stored matrix. -/
theorem graph_at (v0 : Vec Ideal S1024x64 .f32) (v2 : Vec Ideal S64x64 .f32) (v4 : Vec Ideal S1x64 .f32) (v11 : Vec Ideal S1024x64 .f32)
    (v13 : Vec Ideal S64x64 .f32) (v15 : Vec Ideal S1x64 .f32) (v w : Fin 1024) :
    k0_pay1 (F := Ideal) (iota Kind.tc S1024x1024 32 [1] iota_S1024x1024_d1_w32)
        (k0_pay7 v0 v2 v4 v11 v13 v15
          (Scf.fold (fun (_ : Fin k0_t1_loop.trips) (s : FVec Ideal S1024x1024 .f32 × FVec Ideal S1024x1024 .f32) => (k0_pay6 s.1, k0_pay5 s.1 s.2))
            (k0_pay2 v0 v2 v4 v11 v13 v15, k0_pay3)).2)
        (iota Kind.tc S1024x1024 32 [0] iota_S1024x1024_d0_w32) (ix2 v w)
      = norm (score (nodes (fun v k => v0 (ix2 v k)) (fun i k => v2 (ix2 i k)) fun i => v4 (ix2 0 i))
          (nodes (fun v k => v11 (ix2 v k)) (fun i k => v13 (ix2 i k)) fun i => v15 (ix2 0 i))) v w := by
  set a := score (nodes (fun v k => v0 (ix2 v k)) (fun i k => v2 (ix2 i k)) fun i => v4 (ix2 0 i))
          (nodes (fun v k => v11 (ix2 v k)) (fun i k => v13 (ix2 i k)) fun i => v15 (ix2 0 i)) with hadef
  have ha : ∀ v w, 0 ≤ a v w := fun v w => le_max_right _ _
  have h2 : ∀ v w, k0_pay2 (F := Ideal) v0 v2 v4 v11 v13 v15 (ix2 v w) = a v w := fun v w => pay2_at v0 v2 v4 v11 v13 v15 v w
  refine pay1_at _ a (fun v w => ?_) v w
  rw [Scf.fold_eq]
  have hl : (List.finRange k0_t1_loop.trips).length = 30 := by rw [List.length_finRange]; decide
  have ht := trips_at a ha (List.finRange k0_t1_loop.trips) 0 (k0_pay2 (F := Ideal) v0 v2 v4 v11 v13 v15) (k0_pay3 (F := Ideal)) (by rw [hl]; omega)
    (fun v w => by rw [h2]; simp [taken]) (fun v w => by pointwise [k0_pay3]; simp [picked]) v w
  rw [hl, zero_add] at ht
  pointwise [k0_pay7]
  rw [h2]
  exact congrArg (a v w * ·) ht

end Cert.KernelIdeal.Graph

end
-- ==== Proof.Value0.lean ====
/- What the first launch leaves in its result array: the matrix of the graph, read at an index. -/
module

public import proofs.«01_k».proof.Proof.ICall0
public import proofs.«01_k».proof.Proof.Graph

@[expose] public section

set_option maxRecDepth 16384

noncomputable section

namespace Cert.KernelIdeal.Net

open Cert.KernelIdeal Cert.KernelIdeal.Gen Cert.Net
open Idealize.ShloMosaic Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-- What the body stores at the one grid point, as a value over the input blocks. -/
theorem outsAt0_eq (c : Dev nD) (t : Fin cfg0.N) : outsAt0 V c t
    = k0_pay1 (F := Ideal) (iota Kind.tc S1024x1024 32 [1] iota_S1024x1024_d1_w32)
        (k0_pay7 (iblk0 V c 0 t) (iblk0 V c 2 t) (iblk0 V c 3 t) (iblk0 V c 1 t) (iblk0 V c 4 t) (iblk0 V c 5 t)
          (Scf.fold (fun (_ : Fin k0_t1_loop.trips) (s : FVec Ideal S1024x1024 .f32 × FVec Ideal S1024x1024 .f32) => (k0_pay6 s.1, k0_pay5 s.1 s.2))
            (k0_pay2 (iblk0 V c 0 t) (iblk0 V c 2 t) (iblk0 V c 3 t) (iblk0 V c 1 t) (iblk0 V c 4 t) (iblk0 V c 5 t), k0_pay3)).2)
        (iota Kind.tc S1024x1024 32 [0] iota_S1024x1024_d0_w32) := by
  unfold outsAt0 out0_A_6
  rw [View.read_writes_eq_canon _ _ _ (cover0_A_6 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  have z : (![0, 0] : Fin 2 → ℕ) = fun _ => 0 := by funext a; fin_cases a <;> rfl
  simp only [View.canon_unit_zero (S := S1024x1024) (off := ![0, 0]) z, View.ld_unit_zero (S := S1024x64) (off := ![0, 0]) z,
    View.ld_unit_zero (S := S64x64) (off := ![0, 0]) z, View.ld_unit_zero (S := S1x64) (off := ![0, 0]) z]

/-- Every window's index at the one grid point. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem blk0_0 (c : Dev nD) (t : Fin cfg0.N) : iblk0 V c 0 t = V c main_v0 := by
  funext x
  obtain ⟨v, k, hx⟩ : ∃ (v : Fin 1024) (k : Fin 64), x = ix2 v k := ⟨_, _, eq_ix2 x⟩
  subst hx
  blk_ext [iblk0, idx0 t]

theorem blk0_1 (c : Dev nD) (t : Fin cfg0.N) : iblk0 V c 1 t = V c main_v1 := by
  funext x
  obtain ⟨v, k, hx⟩ : ∃ (v : Fin 1024) (k : Fin 64), x = ix2 v k := ⟨_, _, eq_ix2 x⟩
  subst hx
  blk_ext [iblk0, idx0 t]

theorem blk0_2 (c : Dev nD) (t : Fin cfg0.N) : iblk0 V c 2 t = V c main_arg4 := by
  funext x
  obtain ⟨v, k, hx⟩ : ∃ (v : Fin 64) (k : Fin 64), x = ix2 v k := ⟨_, _, eq_ix2 x⟩
  subst hx
  blk_ext [iblk0, idx0 t]

theorem blk0_3 (c : Dev nD) (t : Fin cfg0.N) : iblk0 V c 3 t = V c main_v2 := by
  funext x
  obtain ⟨v, k, hx⟩ : ∃ (v : Fin 1) (k : Fin 64), x = ix2 v k := ⟨_, _, eq_ix2 x⟩
  subst hx
  blk_ext [iblk0, idx0 t]

theorem blk0_4 (c : Dev nD) (t : Fin cfg0.N) : iblk0 V c 4 t = V c main_arg6 := by
  funext x
  obtain ⟨v, k, hx⟩ : ∃ (v : Fin 64) (k : Fin 64), x = ix2 v k := ⟨_, _, eq_ix2 x⟩
  subst hx
  blk_ext [iblk0, idx0 t]

theorem blk0_5 (c : Dev nD) (t : Fin cfg0.N) : iblk0 V c 5 t = V c main_v3 := by
  funext x
  obtain ⟨v, k, hx⟩ : ∃ (v : Fin 1) (k : Fin 64), x = ix2 v k := ⟨_, _, eq_ix2 x⟩
  subst hx
  blk_ext [iblk0, idx0 t]

/-- The result array after the launch. -/
theorem final0 (c : Dev nD) (v w : Fin 1024) : (dat0 V c).arrAt 6 cfg0.N (ix2 v w)
    = norm (score (nodes (fun v k => V c main_v0 (ix2 v k)) (fun i k => V c main_arg4 (ix2 i k)) fun i => V c main_v2 (ix2 0 i))
        (nodes (fun v k => V c main_v1 (ix2 v k)) (fun i k => V c main_arg6 (ix2 i k)) fun i => V c main_v3 (ix2 0 i))) v w := by
  refine congrFun ((dat0 V c).arrAt_eq_of_after_last 6 t0_0 (by decide +kernel) (fun j => norm (score (nodes (fun v k => V c main_v0 (ix2 v k)) (fun i k => V c main_arg4 (ix2 i k)) fun i => V c main_v2 (ix2 0 i))
        (nodes (fun v k => V c main_v1 (ix2 v k)) (fun i k => V c main_arg6 (ix2 i k)) fun i => V c main_v3 (ix2 0 i))) (j 0) (j 1)) fun j => ?_) (ix2 v w)
  blk_simp
  rw [after0_6, outsAt0_eq]
  obtain ⟨v, w, hj⟩ : ∃ v w : Fin 1024, j = ix2 v w := ⟨_, _, eq_ix2 j⟩
  subst hj
  refine (Graph.graph_at _ _ _ _ _ _ v w).trans ?_
  rw [blk0_0, blk0_1, blk0_2, blk0_3, blk0_4, blk0_5]
  rfl

end Cert.KernelIdeal.Net

end
-- ==== Proof.Spec.lean ====
/- The network's stages as plain functions of coordinates over the extended reals: the terms in which the kernel's
   blocks and the reference's arrays are both read. Time is a natural number `j`; the first stage's time axis starts six
   steps before the signal, the second convolution's three steps before it. -/
module

public import Idealize.ShloMosaic.Lib.Pointwise

@[expose] public section

noncomputable section

namespace Cert.Net

open Idealize.ShloMosaic

/-- A channel array: channel, time, node. -/
abbrev Chan (C : ℕ) : Type := Fin C → ℕ → Fin 1024 → EReal

/-- `e` at the times `lo ≤ j < hi`, zero elsewhere. -/
def within (lo hi j : ℕ) (e : EReal) : EReal := if lo ≤ j ∧ j < hi then e else 0

/-- The first pointwise convolution, from one channel; the signal is given with six steps of margin on either side,
    and the result is zero in the margin. -/
def start (w b : Fin 16 → EReal) (x : ℕ → Fin 1024 → EReal) : Chan 16 :=
  fun c j n => within 6 262 j (w c * x j n + b c)

/-- A dense layer along the channels, without its bias. -/
def lin {O I : ℕ} (W : Fin O → Fin I → EReal) (f : Chan I) : Chan O :=
  fun o j n => ∑ i, W o i * f i j n

/-- A convolution along time with seven taps (the first at the step itself), its bias and the rectifier. -/
def conv {O I : ℕ} (W : Fin 7 → Fin O → Fin I → EReal) (b : Fin O → EReal) (f : Chan I) : Chan O :=
  fun o j n => max ((∑ k : Fin 7, ∑ i, W k o i * f i (j + k) n) + b o) 0

/-- One hop along the graph: the nodes' values averaged by the rows of `A`. -/
def hop (A : Fin 1024 → Fin 1024 → EReal) {C : ℕ} (f : Chan C) : Chan C :=
  fun c j v => ∑ w, f c j w * A v w

/-- The kernel's first graph convolution: the weights of the values and of their hop taken apart. -/
def mixA {O I : ℕ} (A : Fin 1024 → Fin 1024 → EReal) (W1 W2 : Fin O → Fin I → EReal) (b : Fin O → EReal) (f : Chan I) :
    Chan O :=
  fun o j n => max (lin W1 f o j n + lin W2 (hop A f) o j n + b o) 0

/-- The kernel's second graph convolution: the hop is taken after the dense layer. -/
def mixB {O I : ℕ} (A : Fin 1024 → Fin 1024 → EReal) (W1 W2 : Fin O → Fin I → EReal) (b : Fin O → EReal) (f : Chan I) :
    Chan O :=
  fun o j n => max (lin W1 f o j n + hop A (lin W2 f) o j n + b o) 0

/-- A dense layer with its bias. -/
def dense {O I : ℕ} (W : Fin O → Fin I → EReal) (b : Fin O → EReal) (f : Chan I) : Chan O :=
  fun o j n => lin W f o j n + b o

/-- A channel array cut to the times `3 ≤ j < 259`, zero elsewhere. -/
def cut {C : ℕ} (f : Chan C) : Chan C := fun c j n => within 3 259 j (f c j n)

/-- The network as the kernel groups it, from the signal with six steps of margin on either side, the row-normalised
    graph and the weights. The result's time axis starts at the signal's first step. -/
def netK (csw csb : Fin 16 → EReal) (etw : Fin 7 → Fin 16 → Fin 16 → EReal) (etb : Fin 16 → EReal)
    (we1 we2 : Fin 32 → Fin 16 → EReal) (egb : Fin 32 → EReal) (eow : Fin 64 → Fin 32 → EReal) (eob : Fin 64 → EReal)
    (dtw : Fin 7 → Fin 64 → Fin 64 → EReal) (dtb : Fin 64 → EReal) (vd1 vd2 : Fin 32 → Fin 64 → EReal)
    (dgb : Fin 32 → EReal) (dow : Fin 16 → Fin 32 → EReal) (dob : Fin 16 → EReal) (cew : Fin 1 → Fin 16 → EReal)
    (ceb : Fin 1 → EReal) (A : Fin 1024 → Fin 1024 → EReal) (x : ℕ → Fin 1024 → EReal) : Chan 1 :=
  dense cew ceb (dense dow dob (mixB A vd1 vd2 dgb (conv dtw dtb
    (cut (dense eow eob (mixA A we1 we2 egb (conv etw etb (start csw csb x))))))))

end Cert.Net
-- ==== Proof.Tile.lean ====
/- The second launch's block computation, read at an index: each of the body's stored and intermediate vectors is the
   stage of Spec.lean that it computes, at the block's times. -/
module

public import proofs.«01_k».proof.Proof.Spec
public import proofs.«01_k».proof.Proof.Gen.KernelIdeal.Skeleton

@[expose] public section

set_option maxRecDepth 16384

noncomputable section

namespace Cert.KernelIdeal.Tile

open Idealize.ShloMosaic Idealize.ShloMosaic.TcCoe Idealize.SL.Sem
open Cert.KernelIdeal Cert.KernelIdeal.Gen Cert.Net

/-- The first mask's words, at the block's 44 steps: 1 exactly on the signal's times. -/
theorem mask44 : ∀ (t : Fin 8) (r : Fin 44),
    IntOp.andi
      (IntOp.cmpi CmpIPredicate.sge (IntOp.addi (Scalar.subi (Scalar.muli (BitVec.ofNat 32 t.val) 32#32) 6#32) (BitVec.ofNat 32 r.val)) 0#32)
      (IntOp.cmpi CmpIPredicate.slt (IntOp.addi (Scalar.subi (Scalar.muli (BitVec.ofNat 32 t.val) 32#32) 6#32) (BitVec.ofNat 32 r.val)) 256#32)
      = BitVec.ofBool (decide (6 ≤ t.val * 32 + r.val ∧ t.val * 32 + r.val < 262)) := by decide +kernel

/-- The second mask's words, at the block's 38 steps. -/
theorem mask38 : ∀ (t : Fin 8) (r : Fin 38),
    IntOp.andi
      (IntOp.cmpi CmpIPredicate.sge (IntOp.addi (Scalar.subi (Scalar.muli (BitVec.ofNat 32 t.val) 32#32) 3#32) (BitVec.ofNat 32 r.val)) 0#32)
      (IntOp.cmpi CmpIPredicate.slt (IntOp.addi (Scalar.subi (Scalar.muli (BitVec.ofNat 32 t.val) 32#32) 3#32) (BitVec.ofNat 32 r.val)) 256#32)
      = BitVec.ofBool (decide (3 ≤ t.val * 32 + r.val ∧ t.val * 32 + r.val < 259)) := by decide +kernel

/-- A value times a mask word read as a float: the value where the mask holds, zero elsewhere. -/
theorem mul_mask (e : EReal) (p : Prop) [Decidable p] :
    e * (FloatOps.sitofp (F := Ideal) FTy.f32 (BitVec.setWidth 32 (BitVec.ofBool (decide p))) : EReal) = if p then e else 0 := by
  by_cases h : p <;> simp [h, FloatOps.sitofp]

/-- The first convolution's values at the block's 44 steps, before the cut of the margin is named. -/
theorem pay3_at (i : grid1.Coords) (v4 : FVec Ideal S1x44x1024 .f32) (v17 v24 : FVec Ideal S16x1 .f32)
    (c : Fin 16) (r : Fin 44) (n : Fin 1024) :
    k1_pay3 (F := Ideal) i v4 v17 v24 (ix3 c r n)
      = within 6 262 ((i 1).val * 32 + r) (v17 (ix2 c 0) * v4 (ix3 0 r n) + v24 (ix2 c 0)) := by
  pointwise [k1_pay3]
  rw [mask44 (i 1) r, mul_mask]
  rfl

/-- The encoder's convolution along time. -/
theorem pay7_at (v32 : FVec Ideal S16x44x1024 .bf16) (v33 : FVec Ideal S7x16x16 .bf16) (i : grid1.Coords) (v4 : FVec Ideal S1x44x1024 .f32)
    (v17 v24 : FVec Ideal S16x1 .f32)
    (v79 : FVec Ideal S16x1 .f32) (f : Chan 16) (T : ℕ)
    (hf : ∀ c (r : Fin 44) n, k1_pay3 (F := Ideal) i v4 v17 v24 (ix3 c r n) = f c (T + r) n)
    (c : Fin 16) (r : Fin 38) (n : Fin 1024) :
    k1_pay7 (F := Ideal) (k1_pay3 i v4 v17 v24) (k1_pay4 v33) k1_pay5 (k1_pay6 i v4 v17 v24 v33) v79 (ix3 c r n)
      = conv (fun k o i => v33 (ix3 k o i)) (fun o => v79 (ix2 o 0)) f c (T + r) n := by
  pointwise [k1_pay7, k1_pay6, k1_pay5, k1_pay4]
  simp only [hf, conv, Fin.sum_univ_seven, zero_add, add_assoc T, fun b : ℕ => add_comm (r : ℕ) b]
  rw [show T + ((0 : Fin 7).val + r.val) = T + r.val by simp]
  rfl

/-- The hop after the encoder's convolution. -/
theorem pay8_at (v2 : FVec Ideal S1024x1024 .bf16) (v32 : FVec Ideal S16x44x1024 .bf16) (v34 : FVec Ideal S7x16x16 .bf16)
    (v35 v40 : FVec Ideal S16x38912 .f32) (v79 : FVec Ideal S16x1 .f32) (f : Chan 16) (T : ℕ)
    (hf : ∀ c (r : Fin 38) n, k1_pay7 (F := Ideal) v32 v34 v35 v40 v79 (ix3 c r n) = f c (T + r) n)
    (c : Fin 16) (r : Fin 38) (n : Fin 1024) :
    k1_pay8 (F := Ideal) v2 v32 v34 v35 v40 v79 (ix3 c r n) = hop (fun v w => v2 (ix2 v w)) f c (T + r) n := by
  pointwise [k1_pay8]
  simp only [hf, hop]

/-- The encoder's graph convolution and its dense layer, cut to the signal's times. -/
theorem pay9_at (t : Fin 8) (v86 v90 : FVec Ideal S16x38x1024 .bf16) (v91 v96 : FVec Ideal S32x16 .bf16)
    (v102 : FVec Ideal S32x1 .f32) (v110 : FVec Ideal S64x32 .bf16) (v115 : FVec Ideal S64x1 .f32)
    (A : Fin 1024 → Fin 1024 → EReal) (f : Chan 16)
    (h86 : ∀ c (r : Fin 38) n, v86 (ix3 c r n) = f c (t.val * 32 + r) n)
    (h90 : ∀ c (r : Fin 38) n, v90 (ix3 c r n) = hop A f c (t.val * 32 + r) n)
    (c : Fin 64) (r : Fin 38) (n : Fin 1024) :
    k1_pay9 (F := Ideal) (Scalar.muli (BitVec.ofNat 32 t.val) 32#32) v86 v90 v91 v96 v102 v110 v115 (ix3 c r n)
      = cut (dense (fun o i => v110 (ix2 o i)) (fun o => v115 (ix2 o 0))
      (mixA A (fun o i => v91 (ix2 o i)) (fun o i => v96 (ix2 o i)) (fun o => v102 (ix2 o 0)) f)) c (t.val * 32 + r) n := by
  pointwise [k1_pay9]
  simp only [h86, h90]
  rw [mask38 t r, mul_mask]
  rfl

/-- The decoder's convolution along time, before its bias. -/
theorem pay10_at (v133 : FVec Ideal S64x38x1024 .f32) (v135 : FVec Ideal S7x64x64 .bf16) (f : Chan 64) (T : ℕ)
    (hf : ∀ c (r : Fin 38) n, v133 (ix3 c r n) = f c (T + r) n) (c : Fin 64) (r : Fin 32) (n : Fin 1024) :
    k1_pay10 (F := Ideal) v133 v135 (ix3 c r n) = ∑ k : Fin 7, ∑ i, v135 (ix3 k c i) * f i (T + r + k) n := by
  pointwise [k1_pay10]
  simp only [hf, Fin.sum_univ_seven, zero_add, add_assoc T, fun b : ℕ => add_comm (r : ℕ) b]
  rw [show T + ((0 : Fin 7).val + r.val) = T + r.val by simp]
  rfl

/-- The decoder's graph convolution and its dense layer. -/
theorem pay11_at (v2 : FVec Ideal S1024x1024 .bf16) (v180 : FVec Ideal S64x32x1024 .f32) (v181 : FVec Ideal S64x1 .f32)
    (v189 v198 : FVec Ideal S32x64 .bf16) (v204 : FVec Ideal S32x1 .f32) (v212 : FVec Ideal S16x32 .bf16)
    (v217 : FVec Ideal S16x1 .f32) (d : Chan 64) (T : ℕ)
    (hd : ∀ c (r : Fin 32) n, max (v180 (ix3 c r n) + v181 (ix2 c 0)) 0 = d c (T + r) n)
    (c : Fin 16) (r : Fin 32) (n : Fin 1024) :
    k1_pay11 (F := Ideal) v2 v180 v181 v189 v198 v204 v212 v217 (ix3 c r n)
      = dense (fun o i => v212 (ix2 o i)) (fun o => v217 (ix2 o 0))
          (mixB (fun v w => v2 (ix2 v w)) (fun o i => v198 (ix2 o i)) (fun o i => v189 (ix2 o i)) (fun o => v204 (ix2 o 0)) d)
          c (T + r) n := by
  pointwise [k1_pay11]
  simp only [hd]
  rfl

/-- The last dense layer. -/
theorem pay1_at (v222 : FVec Ideal S16x32x1024 .bf16) (v223 : FVec Ideal S1x16 .bf16) (v228 : FVec Ideal S1x1 .f32)
    (s : Chan 16) (T : ℕ) (hs : ∀ c (r : Fin 32) n, v222 (ix3 c r n) = s c (T + r) n)
    (r : Fin 32) (n : Fin 1024) :
    k1_pay1 (F := Ideal) v222 v223 v228 (ix3 0 r n)
      = dense (fun o i => v223 (ix2 o i)) (fun o => v228 (ix2 o 0)) s 0 (T + r) n := by
  pointwise [k1_pay1]
  simp only [hs]
  rfl

/-- The whole block: what the body stores at a step and node, from the vectors it loads. -/
theorem tile_at (i : grid1.Coords) (v1 : FVec Ideal S1024x1024 .bf16) (v4 : FVec Ideal S1x44x1024 .f32)
    (v17 v24 : FVec Ideal S16x1 .f32) (v33 : FVec Ideal S7x16x16 .bf16) (v79 : FVec Ideal S16x1 .f32)
    (v91 v96 : FVec Ideal S32x16 .bf16) (v102 : FVec Ideal S32x1 .f32) (v110 : FVec Ideal S64x32 .bf16)
    (v115 : FVec Ideal S64x1 .f32) (v135 : FVec Ideal S7x64x64 .bf16) (v181 : FVec Ideal S64x1 .f32)
    (v189 v198 : FVec Ideal S32x64 .bf16) (v204 : FVec Ideal S32x1 .f32) (v212 : FVec Ideal S16x32 .bf16)
    (v217 : FVec Ideal S16x1 .f32) (v223 : FVec Ideal S1x16 .bf16) (v228 : FVec Ideal S1x1 .f32)
    (x : ℕ → Fin 1024 → EReal) (hx : ∀ (r : Fin 44) n, v4 (ix3 0 r n) = x ((i 1).val * 32 + r) n)
    (r : Fin 32) (n : Fin 1024) :
    k1_pay1 (F := Ideal)
        (k1_pay11 (k1_pay2 v1)
          (k1_pay10
            (k1_pay9 (Scalar.muli (BitVec.ofNat 32 (i 1).val) 32#32)
              (k1_pay7 (k1_pay3 i v4 v17 v24) (k1_pay4 v33) k1_pay5 (k1_pay6 i v4 v17 v24 v33) v79)
              (k1_pay8 (k1_pay2 v1) (k1_pay3 i v4 v17 v24) (k1_pay4 v33) k1_pay5 (k1_pay6 i v4 v17 v24 v33) v79)
              v91 v96 v102 v110 v115) v135)
          v181 v189 v198 v204 v212 v217) v223 v228 (ix3 0 r n)
      = netK (fun c => v17 (ix2 c 0)) (fun c => v24 (ix2 c 0)) (fun k o c => v33 (ix3 k o c)) (fun o => v79 (ix2 o 0))
          (fun o c => v91 (ix2 o c)) (fun o c => v96 (ix2 o c)) (fun o => v102 (ix2 o 0))
          (fun o c => v110 (ix2 o c)) (fun o => v115 (ix2 o 0)) (fun k o c => v135 (ix3 k o c)) (fun o => v181 (ix2 o 0))
          (fun o c => v198 (ix2 o c)) (fun o c => v189 (ix2 o c)) (fun o => v204 (ix2 o 0))
          (fun o c => v212 (ix2 o c)) (fun o => v217 (ix2 o 0)) (fun o c => v223 (ix2 o c)) (fun o => v228 (ix2 o 0))
          (fun v w => v1 (ix2 v w)) x 0 ((i 1).val * 32 + r) n := by
  have e2 : k1_pay2 (F := Ideal) v1 = v1 := by
    funext j
    idx_vars j
    pointwise [k1_pay2]
  rw [e2]
  have h3 : ∀ c (r : Fin 44) n, k1_pay3 (F := Ideal) i v4 v17 v24 (ix3 c r n)
      = start (fun c => v17 (ix2 c 0)) (fun c => v24 (ix2 c 0)) x c ((i 1).val * 32 + r) n := fun c r n => by
    rw [pay3_at, hx]; rfl
  have h7 := pay7_at (k1_pay3 i v4 v17 v24) v33 i v4 v17 v24 v79 _ _ h3
  have h8 := pay8_at v1 (k1_pay3 i v4 v17 v24) (k1_pay4 v33) k1_pay5 (k1_pay6 i v4 v17 v24 v33) v79 _ _ h7
  have h9 := pay9_at (i 1) _ _ v91 v96 v102 v110 v115 _ _ h7 h8
  have h10 := pay10_at _ v135 _ _ h9
  have hd := pay11_at v1 _ v181 v189 v198 v204 v212 v217 (conv (fun k o c => v135 (ix3 k o c)) (fun o => v181 (ix2 o 0)) _)
    ((i 1).val * 32) (fun c r n => congrArg (fun e : EReal => max (e + v181 (ix2 c 0)) 0) (h10 c r n))
  exact pay1_at _ v223 v228 _ _ hd r n

end Cert.KernelIdeal.Tile
-- ==== Proof.Value1.lean ====
/- What the second launch leaves in its result array, read at an index. -/
module

public import proofs.«01_k».proof.Proof.ICall1
public import proofs.«01_k».proof.Proof.Tile
public import Idealize.ShloMosaic.Lib.Pipeline.Value
public import Idealize.ShloMosaic.Lib.Pipeline.ValueKit

@[expose] public section

set_option maxRecDepth 16384

noncomputable section

namespace Cert.KernelIdeal.Net

open Cert.KernelIdeal Cert.KernelIdeal.Gen Cert.Net
open Idealize.ShloMosaic Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-- The step's offset in the signal, as a word and as a number. -/
theorem off_word : ∀ i : Fin 8, BitVec.toNat (Scalar.indexCast (Scalar.muli (BitVec.ofNat 32 i.val) 32#32)) = i.val * 32 := by
  decide +kernel

/-- A signal block with its time axis as natural numbers, zero past the end. -/
def signal (X : Vec Ideal S1x268x1024 .f32) (j : ℕ) (n : Fin 1024) : EReal :=
  if h : j < 268 then X (ix3 0 ⟨j, h⟩ n) else 0

set_option maxHeartbeats 1000000 in
/-- What the body stores at a grid point, as the network over the input blocks. -/
theorem outsAt1_at (c : Dev nD) (t : Fin cfg1.N) (r : Fin 32) (n : Fin 1024) : outsAt1 V c t (ix3 0 r n)
    = netK (fun o => iblk1 V c 2 t (ix2 o 0)) (fun o => iblk1 V c 3 t (ix2 o 0)) (fun k o i => iblk1 V c 4 t (ix3 k o i)) (fun o => iblk1 V c 5 t (ix2 o 0))
        (fun o i => iblk1 V c 6 t (ix2 o i)) (fun o i => iblk1 V c 7 t (ix2 o i)) (fun o => iblk1 V c 8 t (ix2 o 0)) (fun o i => iblk1 V c 9 t (ix2 o i)) (fun o => iblk1 V c 10 t (ix2 o 0))
        (fun k o i => iblk1 V c 11 t (ix3 k o i)) (fun o => iblk1 V c 12 t (ix2 o 0)) (fun o i => iblk1 V c 13 t (ix2 o i)) (fun o i => iblk1 V c 14 t (ix2 o i)) (fun o => iblk1 V c 15 t (ix2 o 0))
        (fun o i => iblk1 V c 16 t (ix2 o i)) (fun o => iblk1 V c 17 t (ix2 o 0)) (fun o i => iblk1 V c 18 t (ix2 o i)) (fun o => iblk1 V c 19 t (ix2 o 0))
        (fun v w => iblk1 V c 1 t (ix2 v w))
        (signal (iblk1 V c 0 t)) 0 ((grid1.coords t 1).val * 32 + r) n := by
  unfold outsAt1 out1_A_20
  rw [View.read_writes_eq_canon _ _ _ (cover1_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, (hs1_12 t).read_unread, (hs1_13 t).read_unread, (hs1_14 t).read_unread, (hs1_15 t).read_unread, (hs1_16 t).read_unread, (hs1_17 t).read_unread, (hs1_18 t).read_unread, (hs1_19 t).read_unread]
  have z2 : (![0, 0] : Fin 2 → ℕ) = fun _ => 0 := by funext a; fin_cases a <;> rfl
  have z3 : (![0, 0, 0] : Fin 3 → ℕ) = fun _ => 0 := by funext a; fin_cases a <;> rfl
  simp only [View.canon_unit_zero (S := S1x32x1024) (off := ![0, 0, 0]) z3, View.ld_unit_zero (S := S1x1) (off := ![0, 0]) z2, View.ld_unit_zero (S := S1x16) (off := ![0, 0]) z2, View.ld_unit_zero (S := S1024x1024) (off := ![0, 0]) z2, View.ld_unit_zero (S := S16x1) (off := ![0, 0]) z2, View.ld_unit_zero (S := S16x32) (off := ![0, 0]) z2, View.ld_unit_zero (S := S32x1) (off := ![0, 0]) z2, View.ld_unit_zero (S := S32x16) (off := ![0, 0]) z2, View.ld_unit_zero (S := S32x64) (off := ![0, 0]) z2, View.ld_unit_zero (S := S64x1) (off := ![0, 0]) z2, View.ld_unit_zero (S := S64x32) (off := ![0, 0]) z2, View.ld_unit_zero (S := S7x16x16) (off := ![0, 0, 0]) z3, View.ld_unit_zero (S := S7x64x64) (off := ![0, 0, 0]) z3]
  refine Tile.tile_at (grid1.coords t) _ _ _ _ _ _ _ _ _ _ _ _ _ _ _ _ _ _ _ _ (signal (iblk1 V c 0 t)) (fun r n => ?_) r n
  have ht : (grid1.coords t 1).val < 8 := (grid1.coords t 1).isLt
  rw [signal, dif_pos (by omega)]
  unfold View.ld
  congr 1
  funext a
  apply Fin.ext
  have ho := off_word (grid1.coords t 1)
  fin_cases a
  all_goals simp [Rect.unit, LoadRect.idx, ho]

/-- Every window's index at a grid point. -/
theorem idx1 : ∀ t : Fin cfg1.N, win1_0.index t = ![(grid1.coords t 0).val, 0, 0] ∧ win1_1.index t = ![0, 0] ∧ win1_2.index t = ![0, 0]
    ∧ win1_3.index t = ![0, 0] ∧ win1_4.index t = ![0, 0, 0] ∧ win1_5.index t = ![0, 0]
    ∧ win1_6.index t = ![0, 0] ∧ win1_7.index t = ![0, 0] ∧ win1_8.index t = ![0, 0]
    ∧ win1_9.index t = ![0, 0] ∧ win1_10.index t = ![0, 0] ∧ win1_11.index t = ![0, 0, 0]
    ∧ win1_12.index t = ![0, 0] ∧ win1_13.index t = ![0, 0] ∧ win1_14.index t = ![0, 0]
    ∧ win1_15.index t = ![0, 0] ∧ win1_16.index t = ![0, 0] ∧ win1_17.index t = ![0, 0]
    ∧ win1_18.index t = ![0, 0] ∧ win1_19.index t = ![0, 0] ∧ win1_20.index t = ![(grid1.coords t 0).val, (grid1.coords t 1).val, 0] :=
  (by decide +kernel : ∀ t : Fin grid1.N, _)

theorem blk1_1 (c : Dev nD) (t : Fin cfg1.N) : iblk1 V c 1 t = V c main_v6 := by
  funext x
  obtain ⟨a, b, hx⟩ : ∃ (a : Fin 1024) (b : Fin 1024), x = ix2 a b := ⟨_, _, eq_ix2 x⟩
  subst hx
  blk_ext [iblk1, idx1 t]

theorem blk1_2 (c : Dev nD) (t : Fin cfg1.N) : iblk1 V c 2 t = V c main_v42 := by
  funext x
  obtain ⟨a, b, hx⟩ : ∃ (a : Fin 16) (b : Fin 1), x = ix2 a b := ⟨_, _, eq_ix2 x⟩
  subst hx
  blk_ext [iblk1, idx1 t]

theorem blk1_3 (c : Dev nD) (t : Fin cfg1.N) : iblk1 V c 3 t = V c main_v43 := by
  funext x
  obtain ⟨a, b, hx⟩ : ∃ (a : Fin 16) (b : Fin 1), x = ix2 a b := ⟨_, _, eq_ix2 x⟩
  subst hx
  blk_ext [iblk1, idx1 t]

theorem blk1_4 (c : Dev nD) (t : Fin cfg1.N) : iblk1 V c 4 t = V c main_v9 := by
  funext x
  obtain ⟨a, b, d, hx⟩ : ∃ (a : Fin 7) (b : Fin 16) (d : Fin 16), x = ix3 a b d := ⟨_, _, _, eq_ix3 x⟩
  subst hx
  blk_ext [iblk1, idx1 t]

theorem blk1_5 (c : Dev nD) (t : Fin cfg1.N) : iblk1 V c 5 t = V c main_v44 := by
  funext x
  obtain ⟨a, b, hx⟩ : ∃ (a : Fin 16) (b : Fin 1), x = ix2 a b := ⟨_, _, eq_ix2 x⟩
  subst hx
  blk_ext [iblk1, idx1 t]

theorem blk1_6 (c : Dev nD) (t : Fin cfg1.N) : iblk1 V c 6 t = V c main_v19 := by
  funext x
  obtain ⟨a, b, hx⟩ : ∃ (a : Fin 32) (b : Fin 16), x = ix2 a b := ⟨_, _, eq_ix2 x⟩
  subst hx
  blk_ext [iblk1, idx1 t]

theorem blk1_7 (c : Dev nD) (t : Fin cfg1.N) : iblk1 V c 7 t = V c main_v23 := by
  funext x
  obtain ⟨a, b, hx⟩ : ∃ (a : Fin 32) (b : Fin 16), x = ix2 a b := ⟨_, _, eq_ix2 x⟩
  subst hx
  blk_ext [iblk1, idx1 t]

theorem blk1_8 (c : Dev nD) (t : Fin cfg1.N) : iblk1 V c 8 t = V c main_v45 := by
  funext x
  obtain ⟨a, b, hx⟩ : ∃ (a : Fin 32) (b : Fin 1), x = ix2 a b := ⟨_, _, eq_ix2 x⟩
  subst hx
  blk_ext [iblk1, idx1 t]

theorem blk1_9 (c : Dev nD) (t : Fin cfg1.N) : iblk1 V c 9 t = V c main_v36 := by
  funext x
  obtain ⟨a, b, hx⟩ : ∃ (a : Fin 64) (b : Fin 32), x = ix2 a b := ⟨_, _, eq_ix2 x⟩
  subst hx
  blk_ext [iblk1, idx1 t]

theorem blk1_10 (c : Dev nD) (t : Fin cfg1.N) : iblk1 V c 10 t = V c main_v46 := by
  funext x
  obtain ⟨a, b, hx⟩ : ∃ (a : Fin 64) (b : Fin 1), x = ix2 a b := ⟨_, _, eq_ix2 x⟩
  subst hx
  blk_ext [iblk1, idx1 t]

theorem blk1_11 (c : Dev nD) (t : Fin cfg1.N) : iblk1 V c 11 t = V c main_v12 := by
  funext x
  obtain ⟨a, b, d, hx⟩ : ∃ (a : Fin 7) (b : Fin 64) (d : Fin 64), x = ix3 a b d := ⟨_, _, _, eq_ix3 x⟩
  subst hx
  blk_ext [iblk1, idx1 t]

theorem blk1_12 (c : Dev nD) (t : Fin cfg1.N) : iblk1 V c 12 t = V c main_v47 := by
  funext x
  obtain ⟨a, b, hx⟩ : ∃ (a : Fin 64) (b : Fin 1), x = ix2 a b := ⟨_, _, eq_ix2 x⟩
  subst hx
  blk_ext [iblk1, idx1 t]

theorem blk1_13 (c : Dev nD) (t : Fin cfg1.N) : iblk1 V c 13 t = V c main_v30 := by
  funext x
  obtain ⟨a, b, hx⟩ : ∃ (a : Fin 32) (b : Fin 64), x = ix2 a b := ⟨_, _, eq_ix2 x⟩
  subst hx
  blk_ext [iblk1, idx1 t]

theorem blk1_14 (c : Dev nD) (t : Fin cfg1.N) : iblk1 V c 14 t = V c main_v34 := by
  funext x
  obtain ⟨a, b, hx⟩ : ∃ (a : Fin 32) (b : Fin 64), x = ix2 a b := ⟨_, _, eq_ix2 x⟩
  subst hx
  blk_ext [iblk1, idx1 t]

theorem blk1_15 (c : Dev nD) (t : Fin cfg1.N) : iblk1 V c 15 t = V c main_v48 := by
  funext x
  obtain ⟨a, b, hx⟩ : ∃ (a : Fin 32) (b : Fin 1), x = ix2 a b := ⟨_, _, eq_ix2 x⟩
  subst hx
  blk_ext [iblk1, idx1 t]

theorem blk1_16 (c : Dev nD) (t : Fin cfg1.N) : iblk1 V c 16 t = V c main_v38 := by
  funext x
  obtain ⟨a, b, hx⟩ : ∃ (a : Fin 16) (b : Fin 32), x = ix2 a b := ⟨_, _, eq_ix2 x⟩
  subst hx
  blk_ext [iblk1, idx1 t]

theorem blk1_17 (c : Dev nD) (t : Fin cfg1.N) : iblk1 V c 17 t = V c main_v49 := by
  funext x
  obtain ⟨a, b, hx⟩ : ∃ (a : Fin 16) (b : Fin 1), x = ix2 a b := ⟨_, _, eq_ix2 x⟩
  subst hx
  blk_ext [iblk1, idx1 t]

theorem blk1_18 (c : Dev nD) (t : Fin cfg1.N) : iblk1 V c 18 t = V c main_v40 := by
  funext x
  obtain ⟨a, b, hx⟩ : ∃ (a : Fin 1) (b : Fin 16), x = ix2 a b := ⟨_, _, eq_ix2 x⟩
  subst hx
  blk_ext [iblk1, idx1 t]

theorem blk1_19 (c : Dev nD) (t : Fin cfg1.N) : iblk1 V c 19 t = V c main_v50 := by
  funext x
  obtain ⟨a, b, hx⟩ : ∃ (a : Fin 1) (b : Fin 1), x = ix2 a b := ⟨_, _, eq_ix2 x⟩
  subst hx
  blk_ext [iblk1, idx1 t]

/-- The padded signal of one batch entry. -/
theorem blk1_0 (c : Dev nD) (t : Fin cfg1.N) : iblk1 V c 0 t = fun x => V c main_v5 (ix3 (grid1.coords t 0) (x 1) (x 2)) := by
  funext x
  obtain ⟨a, b, d, hx⟩ : ∃ (a : Fin 1) (b : Fin 268) (d : Fin 1024), x = ix3 a b d := ⟨_, _, _, eq_ix3 x⟩
  subst hx
  blk_ext [iblk1, idx1 t]

set_option maxHeartbeats 1000000 in
/-- The result array after the launch: the network over the arrays it read. -/
theorem final1 (c : Dev nD) (b : Fin 4) (s : Fin 256) (n : Fin 1024) : (dat1 V c).arrAt 20 cfg1.N (ix3 b s n)
    = netK (fun o => V c main_v42 (ix2 o 0)) (fun o => V c main_v43 (ix2 o 0)) (fun k o i => V c main_v9 (ix3 k o i)) (fun o => V c main_v44 (ix2 o 0))
        (fun o i => V c main_v19 (ix2 o i)) (fun o i => V c main_v23 (ix2 o i)) (fun o => V c main_v45 (ix2 o 0)) (fun o i => V c main_v36 (ix2 o i)) (fun o => V c main_v46 (ix2 o 0))
        (fun k o i => V c main_v12 (ix3 k o i)) (fun o => V c main_v47 (ix2 o 0)) (fun o i => V c main_v30 (ix2 o i)) (fun o i => V c main_v34 (ix2 o i)) (fun o => V c main_v48 (ix2 o 0))
        (fun o i => V c main_v38 (ix2 o i)) (fun o => V c main_v49 (ix2 o 0)) (fun o i => V c main_v40 (ix2 o i)) (fun o => V c main_v50 (ix2 o 0))
        (fun v w => V c main_v6 (ix2 v w))
        (signal fun x => V c main_v5 (ix3 b (x 1) (x 2))) 0 s.val n := by
  refine congrFun ((dat1 V c).arrAt_eq_of_covers 20 (fun j => netK (fun o => V c main_v42 (ix2 o 0)) (fun o => V c main_v43 (ix2 o 0)) (fun k o i => V c main_v9 (ix3 k o i)) (fun o => V c main_v44 (ix2 o 0))
        (fun o i => V c main_v19 (ix2 o i)) (fun o i => V c main_v23 (ix2 o i)) (fun o => V c main_v45 (ix2 o 0)) (fun o i => V c main_v36 (ix2 o i)) (fun o => V c main_v46 (ix2 o 0))
        (fun k o i => V c main_v12 (ix3 k o i)) (fun o => V c main_v47 (ix2 o 0)) (fun o i => V c main_v30 (ix2 o i)) (fun o i => V c main_v34 (ix2 o i)) (fun o => V c main_v48 (ix2 o 0))
        (fun o i => V c main_v38 (ix2 o i)) (fun o => V c main_v49 (ix2 o 0)) (fun o i => V c main_v40 (ix2 o i)) (fun o => V c main_v50 (ix2 o 0))
        (fun v w => V c main_v6 (ix2 v w))
        (signal fun x => V c main_v5 (ix3 (j 0) (x 1) (x 2))) 0 (j 1).val (j 2)) (by decide +kernel) fun t _ y => ?_) (ix3 b s n)
  blk_simp
  rw [after1_20]
  obtain ⟨a, r, n, hy⟩ : ∃ (a : Fin 1) (r : Fin 32) (n : Fin 1024), y = ix3 a r n := ⟨_, _, _, eq_ix3 y⟩
  subst hy
  obtain rfl : a = 0 := Subsingleton.elim _ _
  have e0 : (win1_20.blk t).view.emb (ix3 0 r n) 0 = grid1.coords t 0 := Fin.ext (by blk_simp [idx1 t]; exact Nat.add_zero _)
  have e1 : win1_20.index t 1 = (grid1.coords t 1).val := by rw [(idx1 t).2.2.2.2.2.2.2.2.2.2.2.2.2.2.2.2.2.2.2.2]; rfl
  have e2 : (win1_20.blk t).view.emb (ix3 0 r n) 2 = n := Fin.ext (by blk_simp [idx1 t])
  refine (outsAt1_at V c t r n).trans ?_
  rw [e0, e1, e2]
  rw [blk1_0, blk1_1, blk1_2, blk1_3, blk1_4, blk1_5, blk1_6, blk1_7, blk1_8, blk1_9, blk1_10, blk1_11, blk1_12, blk1_13, blk1_14, blk1_15, blk1_16, blk1_17, blk1_18, blk1_19]
  rfl

end Cert.KernelIdeal.Net

end
-- ==== Proof.RefGraph.lean ====
/- The reference's graph, read at an index: its scores, the thirty greatest of every row, the matrix with self loops,
   each row divided by its sum. It is the graph the kernel's first launch computes. -/
module

public import proofs.«01_k».proof.Proof.Graph
public import proofs.«01_k».proof.Proof.Gen.ReferenceIdeal.Read
public import Idealize.ShloMosaic.Lib.Pointwise
public import Idealize.ShloMosaic.Lib.Routing.OpsPair

@[expose] public section

set_option maxRecDepth 16384

noncomputable section

namespace Cert.ReferenceIdeal.Net

open Cert.ReferenceIdeal Cert.ReferenceIdeal.Gen Cert.ReferenceIdeal.Read
open Idealize.ShloMosaic Idealize.ShloMosaic.Tactic
open Cert.Net

variable (x1 : Vec Ideal S1024 .i32) (x2 x3 : Vec Ideal S1024x64 .f32) (x4 : Vec Ideal S64x64 .f32) (x5 : Vec Ideal S64 .f32)
  (x6 : Vec Ideal S64x64 .f32) (x7 : Vec Ideal S64 .f32)

/-- The reference's scores, from the rows it takes out of the two tables. -/
abbrev scores : Fin 1024 → Fin 1024 → EReal :=
  score (nodes (fun v k => val_main_v2 (F := Ideal) x1 x2 (ix2 v k)) (fun i k => x4 (ix2 i k)) fun i => x5 (ix1 i))
    (nodes (fun v k => val_main_v3 (F := Ideal) x1 x3 (ix2 v k)) (fun i k => x6 (ix2 i k)) fun i => x7 (ix1 i))

theorem n1_at (v : Fin 1024) (i : Fin 64) : val_main_v11 (F := Ideal) x1 x2 x4 x5 (ix2 v i)
    = nodes (fun v k => val_main_v2 (F := Ideal) x1 x2 (ix2 v k)) (fun i k => x4 (ix2 i k)) (fun i => x5 (ix1 i)) v i := by
  unfold val_main_v11 val_main_v10 val_main_v9 val_main_cst val_main_v8 val_main_v7 val_main_v6 val_main_v5 val_main_v4
  generalize val_main_v2 (F := Ideal) x1 x2 = y
  pointwise []
  rfl

theorem n2_at (v : Fin 1024) (i : Fin 64) : val_main_v19 (F := Ideal) x1 x3 x6 x7 (ix2 v i)
    = nodes (fun v k => val_main_v3 (F := Ideal) x1 x3 (ix2 v k)) (fun i k => x6 (ix2 i k)) (fun i => x7 (ix1 i)) v i := by
  unfold val_main_v19 val_main_v18 val_main_v17 val_main_cst_0 val_main_v16 val_main_v15 val_main_v14 val_main_v13 val_main_v12
  generalize val_main_v3 (F := Ideal) x1 x3 = y
  pointwise []
  rfl

theorem scores_at (v w : Fin 1024) : val_main_v28 (F := Ideal) x1 x2 x3 x4 x5 x6 x7 (ix2 v w) = scores x1 x2 x3 x4 x5 x6 x7 v w := by
  unfold val_main_v28 val_main_call2_v0 val_main_call2_cst val_main_v27 val_main_v26 val_main_v25 val_main_cst_1 val_main_v24 val_main_v23 val_main_v22 val_main_v21 val_main_v20
  have h1 := n1_at x1 x2 x4 x5
  have h2 := n2_at x1 x3 x6 x7
  generalize val_main_v11 (F := Ideal) x1 x2 x4 x5 = y1 at *
  generalize val_main_v19 (F := Ideal) x1 x3 x6 x7 = y2 at *
  pointwise []
  simp only [h1, h2]
  rfl

/-- The place `j` of a row's thirty greatest holds the word of the position that comes `j`-th. -/
theorem index_at (y : Vec Ideal S1024x1024 .f32) (v : Fin 1024) (j : Fin 30) :
    (Host.topK S1024x30 1 (FloatOps.cmpfTotal (F := Ideal) (φ := .f32) .gt) y sliceFits_S1024x1024_S1024x30).2 (ix2 v j)
      = BitVec.ofNat 32 (order (fun w => y (ix2 v w)) ⟨j.val, by omega⟩).val := by
  have ha : ∀ (k : Fin 1024) (l : Fin 1024), (ix2 v l : S1024x1024.Idx).along 1 k = ix2 v k := by
    intro k l; funext a; match a with
    | 0 => rfl
    | 1 => rfl
  unfold Host.topK
  dsimp only
  refine (extractStridedSlice_apply (fun _ => 0) _ sliceFits_S1024x1024_S1024x30 (ix2 v j) (ix2 v ⟨j.val, by omega⟩) (fun a => by match a with
    | 0 => simp
    | 1 => simp)).trans ?_
  rw [← sortedFrom_greater]
  unfold Host.sort2
  rw [dif_pos (by decide)]
  dsimp only
  rw [dif_pos (by decide)]
  have hk : ∀ k k' : Fin 1024, (FloatOps.cmpfTotal (F := Ideal) (φ := .f32) .gt (y ((ix2 v (⟨j.val, by omega⟩ : Fin 1024) : S1024x1024.Idx).along 1 k)) (y ((ix2 v (⟨j.val, by omega⟩ : Fin 1024) : S1024x1024.Idx).along 1 k')) == 1#1)
      = decide (y (ix2 v k') < y (ix2 v k)) := by
    intro k k'
    rw [ha, ha]
    show (BitVec.ofBool (decide (y (ix2 v k') < y (ix2 v k))) == 1#1) = _
    by_cases h : y (ix2 v k') < y (ix2 v k) <;> simp [h]
  have key : ∀ k : Fin 1024, iotaInDim S1024x1024 32 1 ((ix2 v (⟨j.val, by omega⟩ : Fin 1024) : S1024x1024.Idx).along 1 k) = BitVec.ofNat 32 k.val := by
    intro k; rw [ha]; rfl
  refine (key _).trans (congrArg (fun k : Fin 1024 => BitVec.ofNat 32 k.val) ?_)
  refine congrFun (congrArg (sortedFrom (n := 1024)) (funext fun k => funext fun k' => ?_)) _
  exact hk k k'

/-- Writing `c` at every position that holds leaves `c` where some position does. -/
theorem fold_hit {α : Type} (P : α → Prop) [DecidablePred P] (c z : EReal) (l : List α) (h : ∃ n ∈ l, P n) :
    l.foldl (fun a n => if P n then c else a) z = c := by
  induction l using List.reverseRecOn with
  | nil => obtain ⟨n, hn, -⟩ := h; cases hn
  | append_singleton l n ih =>
    rw [List.foldl_append]
    by_cases hn : P n
    · simp [hn]
    · obtain ⟨k, hk, hp⟩ := h
      rcases List.mem_append.1 hk with hk | hk
      · simpa [hn] using ih ⟨k, hk, hp⟩
      · rw [List.mem_singleton.1 hk] at hp; exact absurd hp hn

/-- … and what was there before where none does. -/
theorem fold_miss {α : Type} (P : α → Prop) [DecidablePred P] (c z : EReal) (l : List α) (h : ∀ n ∈ l, ¬P n) :
    l.foldl (fun a n => if P n then c else a) z = z := by
  induction l with
  | nil => rfl
  | cons n l ih =>
    rw [List.foldl_cons, if_neg (h n (List.mem_cons_self ..))]
    exact ih fun k hk => h k (List.mem_cons_of_mem _ hk)

/-- Wrapping a position that is not negative leaves it. -/
theorem wrap_word (a : Fin 1024) : Scalar.select (IntOp.cmpi CmpIPredicate.slt (BitVec.ofNat 32 a.val) 0#32) (IntOp.addi (BitVec.ofNat 32 a.val) 1024#32)
      (BitVec.ofNat 32 a.val) = BitVec.ofNat 32 a.val :=
  Routing.wrap_of_lt _ _ (by rw [BitVec.toNat_ofNat]; omega)

/-- The first index word of an update is its row's. -/
theorem row_word (a : Fin 1024) (b : Fin 30) : val_main_v45 (F := Ideal) x1 x2 x3 x4 x5 x6 x7 (ix3 a b 0) = BitVec.ofNat 32 a.val := by
  unfold val_main_v45 val_main_v43 val_main_v42 val_main_v36 val_main_v35 val_main_v34 val_main_v33 val_main_v32 val_main_v31 val_main_v30 val_main_c val_main_c_3
  generalize val_main_v44 (F := Ideal) x1 x2 x3 x4 x5 x6 x7 = y
  pointwise []
  exact wrap_word a

theorem indices_at (a : Fin 1024) (b : Fin 30) : val_main_indices (F := Ideal) x1 x2 x3 x4 x5 x6 x7 (ix2 a b)
    = BitVec.ofNat 32 (order (scores x1 x2 x3 x4 x5 x6 x7 a) ⟨b.val, by omega⟩).val := by
  unfold val_main_indices
  rw [index_at]
  simp only [scores_at]

/-- The second is the position its score's place holds. -/
theorem col_word (a : Fin 1024) (b : Fin 30) : val_main_v45 (F := Ideal) x1 x2 x3 x4 x5 x6 x7 (ix3 a b 1)
    = BitVec.ofNat 32 (order (scores x1 x2 x3 x4 x5 x6 x7 a) ⟨b.val, by omega⟩).val := by
  have h := indices_at x1 x2 x3 x4 x5 x6 x7 a b
  have e : val_main_v45 (F := Ideal) x1 x2 x3 x4 x5 x6 x7 (ix3 a b 1) = val_main_v41 (F := Ideal) x1 x2 x3 x4 x5 x6 x7 (ix2 a b) := by
    unfold val_main_v45 val_main_v44
    generalize val_main_v41 (F := Ideal) x1 x2 x3 x4 x5 x6 x7 = y
    generalize val_main_v43 (F := Ideal) = z
    pointwise []
  rw [e, val_main_v41_apply, val_main_v40_apply, val_main_v38_apply, h]
  exact wrap_word _

/-- The words of positions, read signed, are the positions. -/
theorem toInt_word (k : Fin 1024) : (BitVec.ofNat 32 k.val).toInt = (k.val : ℤ) := by
  rw [BitVec.toInt_ofNat', Int.bmod_eq_of_le (by omega) (by omega)]

/-- The reference's mask, as `picked`. -/
theorem mask_at (v w : Fin 1024) : val_main_v47 (F := Ideal) x1 x2 x3 x4 x5 x6 x7 (ix2 v w) = picked (scores x1 x2 x3 x4 x5 x6 x7 v) 30 w := by
  have hr := row_word x1 x2 x3 x4 x5 x6 x7
  have hc := col_word x1 x2 x3 x4 x5 x6 x7
  have h0 : val_main_v29 (F := Ideal) (ix2 v w) = 0 := by unfold val_main_v29 val_main_cst_2; pointwise []
  have h1 : ∀ i, val_main_v46 (F := Ideal) i = 1 := by
    intro i
    rw [val_main_v46_apply]
    exact Ideal.ofBits_one_f32
  unfold val_main_v47
  generalize val_main_v45 (F := Ideal) x1 x2 x3 x4 x5 x6 x7 = y at *
  rw [Routing.scatter_at, h0]
  simp only [h1]
  unfold picked
  by_cases h : (place (scores x1 x2 x3 x4 x5 x6 x7 v) w).val < 30
  · rw [if_pos h]
    refine fold_hit _ _ _ _ ⟨S1024x30.rowMajor (ix2 v ⟨_, h⟩), List.mem_finRange _, ?_⟩
    rw [Equiv.symm_apply_apply]
    refine (Routing.scatter_lands2 _ rfl rfl rfl y v ⟨_, h⟩ v w).2 ⟨?_, ?_⟩
    · exact (congrArg BitVec.toInt (hr v ⟨_, h⟩)).trans (toInt_word v)
    · refine (congrArg BitVec.toInt (hc v ⟨_, h⟩)).trans ((toInt_word _).trans ?_)
      rw [show (⟨(place (scores x1 x2 x3 x4 x5 x6 x7 v) w).val, by omega⟩ : Fin 1024) = place (scores x1 x2 x3 x4 x5 x6 x7 v) w from rfl, order_place]
  · rw [if_neg h]
    refine fold_miss _ _ _ _ fun n _ hn => h ?_
    obtain ⟨a, b, hab⟩ : ∃ (a : Fin 1024) (b : Fin 30), S1024x30.rowMajor.symm n = ix2 a b := ⟨_, _, eq_ix2 _⟩
    rw [hab] at hn
    have hl := (Routing.scatter_lands2 _ rfl rfl rfl y a b v w).1 hn
    have e1 := ((congrArg BitVec.toInt (hr a b)).trans (toInt_word a)).symm.trans hl.1
    have e2 := ((congrArg BitVec.toInt (hc a b)).trans (toInt_word _)).symm.trans hl.2
    obtain rfl : a = v := Fin.ext (by exact_mod_cast e1)
    have hw : order (scores x1 x2 x3 x4 x5 x6 x7 a) ⟨b.val, by omega⟩ = w := Fin.ext (by exact_mod_cast e2)
    rw [← hw, place_order]
    exact b.isLt

/-- The reference's normalised graph. -/
theorem graph_at (v w : Fin 1024) : val_main_v113 (F := Ideal) x1 x2 x3 x4 x5 x6 x7 (ix2 v w) = norm (scores x1 x2 x3 x4 x5 x6 x7) v w := by
  unfold val_main_v113 val_main_v112 val_main_v111 val_main_v110 val_main_v109 val_main_v108 val_main_v107 val_main_v106 val_main_v105 val_main_v104 val_main_v103 val_main_c_9 val_main_cst_10 val_main_v48
  have h1 := scores_at x1 x2 x3 x4 x5 x6 x7
  have h2 := mask_at x1 x2 x3 x4 x5 x6 x7
  generalize val_main_v28 (F := Ideal) x1 x2 x3 x4 x5 x6 x7 = y1 at *
  generalize val_main_v47 (F := Ideal) x1 x2 x3 x4 x5 x6 x7 = y2 at *
  have hd : ∀ u : Fin 1024, FloatOps.uitofp (F := Ideal) FTy.f32 (IntOp.cmpi CmpIPredicate.eq (IntOp.addi (BitVec.ofNat 32 v.val) 0#32) (BitVec.ofNat 32 u.val))
      = if v = u then (1 : EReal) else 0 := by
    intro u
    rw [show IntOp.addi (BitVec.ofNat 32 v.val) 0#32 = BitVec.ofNat 32 v.val from BitVec.add_zero _, eq_word]
    by_cases h : v = u
    · rw [if_pos h, decide_eq_true h]
      show (((1#1 : BitVec 1).toNat : ℝ) : EReal) = 1
      simp
    · rw [if_neg h, decide_eq_false h]
      show (((0#1 : BitVec 1).toNat : ℝ) : EReal) = 0
      simp
  pointwise []
  simp only [h1, h2]
  simp only [hd]
  rfl

end Cert.ReferenceIdeal.Net
end
-- ==== Proof.Mix.lean ====
/- Which stages of the network are real numbers when the inputs are, and the two graph convolutions regrouped: the
   kernel's grouping of the sums is the reference's wherever the values and the graph are real and not negative. -/
module

public import proofs.«01_k».proof.Proof.Spec
public import proofs.«01_k».proof.Proof.Graph

@[expose] public section

noncomputable section

namespace Cert.Net

open Idealize.ShloMosaic

/-- `x` is a real number. -/
def Fine (x : EReal) : Prop := ∃ r : ℝ, x = r

theorem Fine.add {x y : EReal} (hx : Fine x) (hy : Fine y) : Fine (x + y) := by
  obtain ⟨a, rfl⟩ := hx; obtain ⟨b, rfl⟩ := hy; exact ⟨a + b, (EReal.coe_add a b).symm⟩

theorem Fine.mul {x y : EReal} (hx : Fine x) (hy : Fine y) : Fine (x * y) := by
  obtain ⟨a, rfl⟩ := hx; obtain ⟨b, rfl⟩ := hy; exact ⟨a * b, (EReal.coe_mul a b).symm⟩

theorem fine_zero : Fine 0 := ⟨0, rfl⟩

theorem fine_one : Fine 1 := ⟨1, rfl⟩

theorem Fine.max {x y : EReal} (hx : Fine x) (hy : Fine y) : Fine (max x y) := by
  rcases max_choice x y with h | h <;> rw [h] <;> assumption

theorem Fine.within {x : EReal} (hx : Fine x) (lo hi j : ℕ) : Fine (within lo hi j x) := by
  unfold Net.within; split
  · exact hx
  · exact fine_zero

theorem Fine.sum {ι : Type} (s : Finset ι) (f : ι → EReal) (h : ∀ i, Fine (f i)) : Fine (∑ i ∈ s, f i) := by
  classical
  induction s using Finset.induction_on with
  | empty => exact ⟨0, by simp⟩
  | insert a s ha ih => rw [Finset.sum_insert ha]; exact (h a).add ih

/-- A channel array of real numbers. -/
def Fines {C : ℕ} (f : Chan C) : Prop := ∀ c j n, Fine (f c j n)

theorem fines_start {w b : Fin 16 → EReal} {x : ℕ → Fin 1024 → EReal} (hw : ∀ c, Fine (w c)) (hb : ∀ c, Fine (b c))
    (hx : ∀ j n, Fine (x j n)) : Fines (start w b x) :=
  fun c j n => (((hw c).mul (hx j n)).add (hb c)).within ..

theorem fines_lin {O I : ℕ} {W : Fin O → Fin I → EReal} {f : Chan I} (hW : ∀ o i, Fine (W o i)) (hf : Fines f) :
    Fines (lin W f) := fun o j n => Fine.sum _ _ fun i => (hW o i).mul (hf i j n)

theorem fines_conv {O I : ℕ} {W : Fin 7 → Fin O → Fin I → EReal} {b : Fin O → EReal} {f : Chan I}
    (hW : ∀ k o i, Fine (W k o i)) (hb : ∀ o, Fine (b o)) (hf : Fines f) : Fines (conv W b f) :=
  fun o _ n => ((Fine.sum _ _ fun k => Fine.sum _ _ fun i => (hW k o i).mul (hf i _ n)).add (hb o)).max fine_zero

theorem fines_hop {A : Fin 1024 → Fin 1024 → EReal} {C : ℕ} {f : Chan C} (hA : ∀ v w, Fine (A v w)) (hf : Fines f) :
    Fines (hop A f) := fun c j v => Fine.sum _ _ fun w => (hf c j w).mul (hA v w)

theorem fines_mixA {O I : ℕ} {A : Fin 1024 → Fin 1024 → EReal} {W1 W2 : Fin O → Fin I → EReal} {b : Fin O → EReal}
    {f : Chan I} (hA : ∀ v w, Fine (A v w)) (h1 : ∀ o i, Fine (W1 o i)) (h2 : ∀ o i, Fine (W2 o i))
    (hb : ∀ o, Fine (b o)) (hf : Fines f) : Fines (mixA A W1 W2 b f) :=
  fun o j n => (((fines_lin h1 hf o j n).add (fines_lin h2 (fines_hop hA hf) o j n)).add (hb o)).max fine_zero

theorem fines_dense {O I : ℕ} {W : Fin O → Fin I → EReal} {b : Fin O → EReal} {f : Chan I}
    (hW : ∀ o i, Fine (W o i)) (hb : ∀ o, Fine (b o)) (hf : Fines f) : Fines (dense W b f) :=
  fun o j n => (fines_lin hW hf o j n).add (hb o)

theorem fines_cut {C : ℕ} {f : Chan C} (hf : Fines f) : Fines (cut f) := fun c j n => (hf c j n).within ..

theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-- A graph convolution at one node, as the reference takes it: the weights `U1` on the values, the weights `U2` on
    `a` parts of the values and `b` parts of their hop. -/
def mixR {I : ℕ} (a b : EReal) (U1 U2 : Fin I → EReal) (p : Fin I → Fin 1024 → EReal) (A : Fin 1024 → EReal) (v : Fin 1024) : EReal :=
  (∑ i, p i v * U1 i) + ∑ i, (a * p i v + b * ∑ w, A w * p i w) * U2 i

/-- A non-negative real number distributes over any sum. -/
theorem mul_sum_of_nonneg {ι : Type} (s : Finset ι) {c : EReal} (hc : 0 ≤ c) (hf : Fine c) (f : ι → EReal) :
    c * ∑ i ∈ s, f i = ∑ i ∈ s, c * f i := by
  classical
  obtain ⟨r, rfl⟩ := hf
  induction s using Finset.induction_on with
  | empty => simp
  | insert a s ha ih =>
    rw [Finset.sum_insert ha, Finset.sum_insert ha, EReal.left_distrib_of_nonneg_of_ne_top hc (EReal.coe_ne_top r), ih]

/-- A sum of non-negative terms distributes over any factor. -/
theorem sum_mul_of_nonneg {ι : Type} (s : Finset ι) {f : ι → EReal} (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

section Regroup

variable {I : ℕ} {a b : EReal} {U1 U2 : Fin I → EReal} {p : Fin I → Fin 1024 → EReal} {A : Fin 1024 → EReal}
  (a0 : 0 ≤ a) (b0 : 0 ≤ b) (p0 : ∀ i w, 0 ≤ p i w) (A0 : ∀ w, 0 ≤ A w)
  (hp : ∀ i w, Fine (p i w)) (hA : ∀ w, Fine (A w))

include a0 b0 p0 A0 hp in
/-- With values and graph non-negative and real, the weights of the values and of the hop can be taken apart, whatever
    the weights are. -/
theorem mixR_A (v : Fin 1024) : mixR a b U1 U2 p A v
    = (∑ i, (U1 i + a * U2 i) * p i v) + ∑ i, (b * U2 i) * ∑ w, p i w * A w := by
  have h1 : ∀ i, (a * p i v + b * ∑ w, A w * p i w) * U2 i = (a * U2 i) * p i v + (b * U2 i) * ∑ w, p i w * A w := by
    intro i
    have e : ∑ w, A w * p i w = ∑ w, p i w * A w := Finset.sum_congr rfl fun w _ => mul_comm _ _
    rw [EReal.right_distrib_of_nonneg (mul_nonneg a0 (p0 i v))
      (mul_nonneg b0 (Finset.sum_nonneg fun w _ => mul_nonneg (A0 w) (p0 i w))), e, mul_right_comm a, mul_right_comm b]
  have h2 : ∀ i, (U1 i + a * U2 i) * p i v = p i v * U1 i + (a * U2 i) * p i v := by
    intro i
    have ht : p i v ≠ ⊤ := by obtain ⟨r, hr⟩ := hp i v; rw [hr]; exact EReal.coe_ne_top r
    rw [EReal.right_distrib_of_nonneg_of_ne_top (p0 i v) ht, mul_comm (U1 i)]
  unfold mixR
  simp only [h1, h2, Finset.sum_add_distrib, add_assoc]

include a0 b0 p0 A0 hp hA in
/-- Under the same conditions the hop can be taken after the dense layer. -/
theorem mixR_B (v : Fin 1024) : mixR a b U1 U2 p A v
    = (∑ i, (U1 i + a * U2 i) * p i v) + ∑ w, (∑ i, (b * U2 i) * p i w) * A w := by
  rw [mixR_A a0 b0 p0 A0 hp]
  congr 1
  have h1 : ∀ i, (b * U2 i) * ∑ w, p i w * A w = ∑ w, A w * ((b * U2 i) * p i w) := by
    intro i
    rw [mul_comm, sum_mul_of_nonneg _ fun w => mul_nonneg (p0 i w) (A0 w)]
    exact Finset.sum_congr rfl fun w _ => by rw [mul_comm (p i w), mul_assoc, mul_comm (p i w)]
  have h2 : ∀ w, (∑ i, (b * U2 i) * p i w) * A w = ∑ i, A w * ((b * U2 i) * p i w) := fun w => by
    rw [mul_comm, mul_sum_of_nonneg _ (A0 w) (hA w)]
  simp only [h1, h2]
  exact Finset.sum_comm

end Regroup

/-- The scores lie between zero and one. -/
theorem score_range (n1 n2 : Fin 1024 → Fin 64 → EReal) (v w : Fin 1024) :
    ∃ r : ℝ, score n1 n2 v w = r ∧ 0 ≤ r := by
  have ht : ∀ x : EReal, ∃ r : ℝ, Ideal.tanh x = r := by
    intro x
    induction x with
    | bot => exact ⟨-1, rfl⟩
    | top => exact ⟨1, rfl⟩
    | coe r => exact ⟨Real.tanh r, rfl⟩
  unfold score
  obtain ⟨r, hr⟩ := ht (three * ((∑ i, n1 v i * n2 w i) - ∑ i, n2 v i * n1 w i))
  rw [hr]
  exact ⟨max r 0, (EReal.coe_strictMono.monotone.map_max (a := r) (b := 0)).symm, le_max_right _ _⟩

/-- The normalised graph of nonnegative real scores is real and nonnegative. -/
theorem norm_fine (a : Fin 1024 → Fin 1024 → EReal) (h : ∀ v w, ∃ r : ℝ, a v w = r ∧ 0 ≤ r) (v w : Fin 1024) :
    Fine (norm a v w) ∧ 0 ≤ norm a v w := by
  have hl : ∀ u, ∃ r : ℝ, looped a v u = r ∧ 0 ≤ r ∧ (v = u → 0 < r) := by
    intro u
    obtain ⟨r, hr, h0⟩ := h v u
    unfold looped
    rw [hr]
    have hp : ∃ q : ℝ, picked (a v) 30 u = q ∧ 0 ≤ q := by
      unfold picked; split
      · exact ⟨1, rfl, by norm_num⟩
      · exact ⟨0, rfl, le_rfl⟩
    obtain ⟨q, hq, q0⟩ := hp
    rw [hq]
    have hm := mul_nonneg h0 q0
    by_cases e : v = u
    · refine ⟨r * q + 1, ?_, by linarith, fun _ => by linarith⟩
      rw [if_pos e, EReal.coe_add, EReal.coe_mul]; rfl
    · refine ⟨r * q, ?_, hm, fun h => absurd h e⟩
      rw [if_neg e, EReal.coe_mul, add_zero]
  choose g hg g0 g1 using hl
  have hs : (∑ u, looped a v u) = ((∑ u, g u : ℝ) : EReal) := by
    rw [coe_sum]; exact Finset.sum_congr rfl fun u _ => hg u
  have hpos : 0 < ∑ u, g u := Finset.sum_pos' (fun u _ => g0 u) ⟨v, Finset.mem_univ v, g1 v rfl⟩
  unfold norm
  rw [hs, hg w]
  have e : Ideal.div (g w : EReal) ((∑ u, g u : ℝ) : EReal) = ((g w * (1 / ∑ u, g u) : ℝ) : EReal) := by
    rw [Ideal.div_coe hpos.ne', EReal.coe_mul]
  rw [e]
  exact ⟨⟨_, rfl⟩, EReal.coe_nonneg.mpr (mul_nonneg (g0 w) (one_div_nonneg.mpr hpos.le))⟩

end Cert.Net
end
-- ==== Proof.RefNet.lean ====
/- The reference's network, stage by stage, read at an index: every stage's entry in terms of the entries of the stage
   before it. -/
module

public import proofs.«01_k».proof.Proof.RefGraph
public import proofs.«01_k».proof.Proof.Mix
public import Idealize.ShloMosaic.Lib.KernelVsHost

@[expose] public section

set_option maxRecDepth 16384

noncomputable section

namespace Cert.ReferenceIdeal.Net

open Cert.ReferenceIdeal Cert.ReferenceIdeal.Gen Cert.ReferenceIdeal.Read
open Idealize.ShloMosaic Idealize.ShloMosaic.Tactic
open Cert.Net

variable (x0 : Vec Ideal S4x256x1024 .f32) (x1 : Vec Ideal S1024 .i32) (x2 x3 : Vec Ideal S1024x64 .f32) (x4 : Vec Ideal S64x64 .f32)
  (x5 : Vec Ideal S64 .f32) (x6 : Vec Ideal S64x64 .f32) (x7 : Vec Ideal S64 .f32) (x8 : Vec Ideal S16x1x1x1 .f32)
  (x9 : Vec Ideal S16 .f32) (x10 : Vec Ideal S16x16x1x7 .f32) (x11 : Vec Ideal S16 .f32) (x12 : Vec Ideal S32x32x1x1 .f32)
  (x13 : Vec Ideal S32 .f32) (x14 : Vec Ideal S64x32x1x1 .f32) (x15 : Vec Ideal S64 .f32) (x16 : Vec Ideal S64x64x1x7 .f32)
  (x17 : Vec Ideal S64 .f32) (x18 : Vec Ideal S32x128x1x1 .f32) (x19 : Vec Ideal S32 .f32) (x20 : Vec Ideal S16x32x1x1 .f32)
  (x21 : Vec Ideal S16 .f32) (x22 : Vec Ideal S1x16x1x1 .f32) (x23 : Vec Ideal S1 .f32)

/-- The share of a value that a graph convolution keeps. -/
abbrev keep : EReal := Ideal.ofBits FTy.f32 0x3D4CCCCD#32

/-- The share that it takes from the value's hop. -/
abbrev pass : EReal := Ideal.ofBits FTy.f32 0x3F733333#32

/-- The first pointwise convolution. -/
theorem start_at (b : Fin 4) (o : Fin 16) (n : Fin 1024) (t : Fin 256) :
    val_main_v54 (F := Ideal) x0 x8 x9 (ix4 b o n t) = @HAdd.hAdd EReal EReal EReal _ (@HMul.hMul EReal EReal EReal _ (x8 (ix4 o 0 0 0)) (x0 (ix3 b t n))) (x9 (ix1 o)) := by
  unfold val_main_v54 val_main_v53 val_main_v52 val_main_v51 val_main_v50 val_main_v49 val_main_v1 val_main_v0
  pointwise []
  rw [Fin.sum_univ_one, mul_comm]

/-- It padded along time by three zeros on either side. -/
theorem startPad_at (b : Fin 4) (o : Fin 16) (n : Fin 1024) (s : Fin 262) :
    val_main_v55 (F := Ideal) x0 x8 x9 (ix4 b o n s)
      = if h : 3 ≤ s.val ∧ s.val < 259 then val_main_v54 (F := Ideal) x0 x8 x9 (ix4 b o n ⟨s.val - 3, by omega⟩) else (0 : EReal) := by
  unfold val_main_v55
  by_cases h : 3 ≤ s.val ∧ s.val < 259
  · rw [dif_pos h]
    refine pad_apply_of_inside _ _ _ _ _ _ _ _ _ fun a => ?_
    match a with
    | 0 => simp
    | 1 => simp
    | 2 => simp
    | 3 => simp; omega
  · rw [dif_neg h]
    refine (pad_apply_of_not_inside _ _ _ _ _ _ _ _ 3 fun h' => h ?_).trans ?_
    · simp at h'; omega
    · unfold val_main_call3_v0 val_main_c_7
      show (((0#32 : BitVec 32).toInt : ℝ) : EReal) = 0
      simp

/-- The first convolution along time. -/
theorem conv1_at (b : Fin 4) (o : Fin 16) (n : Fin 1024) (t : Fin 256) :
    val_main_v102 (F := Ideal) x0 x8 x9 x10 x11 (ix4 b o n t)
      = max ((∑ k : Fin 7, ∑ i : Fin 16, @HMul.hMul EReal EReal EReal _ (x10 (ix4 o i 0 k)) (val_main_v55 (F := Ideal) x0 x8 x9 (ix4 b i n ⟨t.val + k.val, by omega⟩))) + x11 (ix1 o)) 0 := by
  unfold val_main_v102 val_main_call4_v0 val_main_call4_cst val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_cst_8 val_main_v60 val_main_v59 val_main_v58 val_main_v57 val_main_v56
  generalize val_main_v55 (F := Ideal) x0 x8 x9 = y
  pointwise []
  have e : ∀ (k : Fin 7) (p : ℕ) (hp : p < 262) (hk : p = t.val + k.val),
      (∑ x, y (ix4 b x n ⟨p, hp⟩) * x10 (ix4 o x 0 k)) = ∑ i, x10 (ix4 o i 0 k) * y (ix4 b i n ⟨t.val + k.val, by omega⟩) := by
    intro k p hp hk
    subst hk
    exact Finset.sum_congr rfl fun i _ => mul_comm _ _
  rw [Fin.sum_univ_seven, e 0 t.val (by omega) (by simp), e 1 (1 + t.val) (by omega) (by simp; omega), e 2 (2 + t.val) (by omega) (by simp; omega),
    e 3 (3 + t.val) (by omega) (by simp; omega), e 4 (4 + t.val) (by omega) (by simp; omega), e 5 (5 + t.val) (by omega) (by simp; omega),
    e 6 (6 + t.val) (by omega) (by simp; omega)]

/-- The first graph convolution. -/
theorem mix1_at (b : Fin 4) (o : Fin 32) (n : Fin 1024) (t : Fin 256) :
    val_main_v128 (F := Ideal) x0 x1 x2 x3 x4 x5 x6 x7 x8 x9 x10 x11 x12 x13 (ix4 b o n t)
      = max (mixR keep pass (fun i => x12 (ix4 o (Fin.castAdd 16 i) 0 0)) (fun i => x12 (ix4 o (Fin.natAdd 16 i) 0 0))
          (fun i w => val_main_v102 (F := Ideal) x0 x8 x9 x10 x11 (ix4 b i w t)) (fun w => val_main_v113 (F := Ideal) x1 x2 x3 x4 x5 x6 x7 (ix2 n w)) n + x13 (ix1 o)) 0 := by
  unfold val_main_v128 val_main_call5_v0 val_main_call5_cst val_main_v127 val_main_v126 val_main_v125 val_main_v124 val_main_v123 val_main_v122 val_main_v121 val_main_v120 val_main_v119 val_main_v118 val_main_cst_12 val_main_v117 val_main_v116 val_main_v115 val_main_v114 val_main_cst_11
  generalize val_main_v102 (F := Ideal) x0 x8 x9 x10 x11 = y
  generalize val_main_v113 (F := Ideal) x1 x2 x3 x4 x5 x6 x7 = A
  pointwise []
  rfl

/-- The dense layer after it. -/
theorem dense1_at (b : Fin 4) (o : Fin 64) (n : Fin 1024) (t : Fin 256) :
    val_main_v134 (F := Ideal) x0 x1 x2 x3 x4 x5 x6 x7 x8 x9 x10 x11 x12 x13 x14 x15 (ix4 b o n t)
      = (∑ i : Fin 32, @HMul.hMul EReal EReal EReal _ (x14 (ix4 o i 0 0)) (val_main_v128 (F := Ideal) x0 x1 x2 x3 x4 x5 x6 x7 x8 x9 x10 x11 x12 x13 (ix4 b i n t))) + x15 (ix1 o) := by
  unfold val_main_v134 val_main_v133 val_main_v132 val_main_v131 val_main_v130 val_main_v129
  generalize val_main_v128 (F := Ideal) x0 x1 x2 x3 x4 x5 x6 x7 x8 x9 x10 x11 x12 x13 = y
  pointwise []
  simp only [mul_comm]

/-- It padded along time by three zeros on either side. -/
theorem densePad_at (b : Fin 4) (o : Fin 64) (n : Fin 1024) (s : Fin 262) :
    val_main_v135 (F := Ideal) x0 x1 x2 x3 x4 x5 x6 x7 x8 x9 x10 x11 x12 x13 x14 x15 (ix4 b o n s)
      = if h : 3 ≤ s.val ∧ s.val < 259 then val_main_v134 (F := Ideal) x0 x1 x2 x3 x4 x5 x6 x7 x8 x9 x10 x11 x12 x13 x14 x15 (ix4 b o n ⟨s.val - 3, by omega⟩) else (0 : EReal) := by
  unfold val_main_v135
  generalize val_main_v134 (F := Ideal) x0 x1 x2 x3 x4 x5 x6 x7 x8 x9 x10 x11 x12 x13 x14 x15 = y
  by_cases h : 3 ≤ s.val ∧ s.val < 259
  · rw [dif_pos h]
    refine pad_apply_of_inside _ _ _ _ _ _ _ _ _ fun a => ?_
    match a with
    | 0 => simp
    | 1 => simp
    | 2 => simp
    | 3 => simp; omega
  · rw [dif_neg h]
    refine (pad_apply_of_not_inside _ _ _ _ _ _ _ _ 3 fun h' => h ?_).trans ?_
    · simp at h'; omega
    · unfold val_main_call6_v0 val_main_c_13
      show (((0#32 : BitVec 32).toInt : ℝ) : EReal) = 0
      simp

/-- The second convolution along time. -/
theorem conv2_at (b : Fin 4) (o : Fin 64) (n : Fin 1024) (t : Fin 256) :
    val_main_v182 (F := Ideal) x0 x1 x2 x3 x4 x5 x6 x7 x8 x9 x10 x11 x12 x13 x14 x15 x16 x17 (ix4 b o n t)
      = max ((∑ k : Fin 7, ∑ i : Fin 64, @HMul.hMul EReal EReal EReal _ (x16 (ix4 o i 0 k)) (val_main_v135 (F := Ideal) x0 x1 x2 x3 x4 x5 x6 x7 x8 x9 x10 x11 x12 x13 x14 x15 (ix4 b i n ⟨t.val + k.val, by omega⟩))) + x17 (ix1 o)) 0 := by
  unfold val_main_v182 val_main_call7_v0 val_main_call7_cst val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_cst_14
  generalize val_main_v135 (F := Ideal) x0 x1 x2 x3 x4 x5 x6 x7 x8 x9 x10 x11 x12 x13 x14 x15 = y
  pointwise []
  have e : ∀ (k : Fin 7) (p : ℕ) (hp : p < 262) (hk : p = t.val + k.val),
      (∑ x, y (ix4 b x n ⟨p, hp⟩) * x16 (ix4 o x 0 k)) = ∑ i, x16 (ix4 o i 0 k) * y (ix4 b i n ⟨t.val + k.val, by omega⟩) := by
    intro k p hp hk
    subst hk
    exact Finset.sum_congr rfl fun i _ => mul_comm _ _
  rw [Fin.sum_univ_seven, e 0 t.val (by omega) (by simp), e 1 (1 + t.val) (by omega) (by simp; omega), e 2 (2 + t.val) (by omega) (by simp; omega),
    e 3 (3 + t.val) (by omega) (by simp; omega), e 4 (4 + t.val) (by omega) (by simp; omega), e 5 (5 + t.val) (by omega) (by simp; omega),
    e 6 (6 + t.val) (by omega) (by simp; omega)]

/-- The second graph convolution. -/
theorem mix2_at (b : Fin 4) (o : Fin 32) (n : Fin 1024) (t : Fin 256) :
    val_main_v208 (F := Ideal) x0 x1 x2 x3 x4 x5 x6 x7 x8 x9 x10 x11 x12 x13 x14 x15 x16 x17 x18 x19 (ix4 b o n t)
      = max (mixR keep pass (fun i => x18 (ix4 o (Fin.castAdd 64 i) 0 0)) (fun i => x18 (ix4 o (Fin.natAdd 64 i) 0 0))
          (fun i w => val_main_v182 (F := Ideal) x0 x1 x2 x3 x4 x5 x6 x7 x8 x9 x10 x11 x12 x13 x14 x15 x16 x17 (ix4 b i w t)) (fun w => val_main_v113 (F := Ideal) x1 x2 x3 x4 x5 x6 x7 (ix2 n w)) n + x19 (ix1 o)) 0 := by
  have hA : val_main_v193 (F := Ideal) x1 x2 x3 x4 x5 x6 x7 = val_main_v113 (F := Ideal) x1 x2 x3 x4 x5 x6 x7 := rfl
  unfold val_main_v208 val_main_call8_v0 val_main_call8_cst val_main_v207 val_main_v206 val_main_v205 val_main_v204 val_main_v203 val_main_v202 val_main_v201 val_main_v200 val_main_v199 val_main_v198 val_main_cst_18 val_main_v197 val_main_v196 val_main_v195 val_main_v194 val_main_cst_17
  rw [hA]
  generalize val_main_v182 (F := Ideal) x0 x1 x2 x3 x4 x5 x6 x7 x8 x9 x10 x11 x12 x13 x14 x15 x16 x17 = y
  generalize val_main_v113 (F := Ideal) x1 x2 x3 x4 x5 x6 x7 = A
  pointwise []
  rfl

/-- The two dense layers after it, and the result's order of axes. -/
theorem out_at (b : Fin 4) (t : Fin 256) (n : Fin 1024) :
    val_main_v222 (F := Ideal) x0 x1 x2 x3 x4 x5 x6 x7 x8 x9 x10 x11 x12 x13 x14 x15 x16 x17 x18 x19 x20 x21 x22 x23 (ix3 b t n)
      = (∑ i : Fin 16, @HMul.hMul EReal EReal EReal _ (x22 (ix4 0 i 0 0))
          ((∑ k : Fin 32, @HMul.hMul EReal EReal EReal _ (x20 (ix4 i k 0 0)) (val_main_v208 (F := Ideal) x0 x1 x2 x3 x4 x5 x6 x7 x8 x9 x10 x11 x12 x13 x14 x15 x16 x17 x18 x19 (ix4 b k n t))) + x21 (ix1 i))) + x23 (ix1 0) := by
  unfold val_main_v222 val_main_v221 val_main_v220 val_main_v219 val_main_v218 val_main_v217 val_main_v216 val_main_v215 val_main_v214 val_main_v213 val_main_v212 val_main_v211 val_main_v210 val_main_v209
  generalize val_main_v208 (F := Ideal) x0 x1 x2 x3 x4 x5 x6 x7 x8 x9 x10 x11 x12 x13 x14 x15 x16 x17 x18 x19 = y
  pointwise []
  simp only [mul_comm]

end Cert.ReferenceIdeal.Net
end
-- ==== Proof.Whole.lean ====
/- The reference's result is the network of `Spec`, with the weights regrouped as the kernel regroups them, wherever the
   signal and the weights before the second graph convolution are real numbers. -/
module

public import proofs.«01_k».proof.Proof.RefNet

@[expose] public section

set_option maxRecDepth 16384

noncomputable section

namespace Cert.ReferenceIdeal.Net

open Cert.ReferenceIdeal Cert.ReferenceIdeal.Gen Cert.ReferenceIdeal.Read
open Idealize.ShloMosaic Idealize.ShloMosaic.Tactic
open Cert.Net

variable (x0 : Vec Ideal S4x256x1024 .f32) (x1 : Vec Ideal S1024 .i32) (x2 x3 : Vec Ideal S1024x64 .f32) (x4 : Vec Ideal S64x64 .f32)
  (x5 : Vec Ideal S64 .f32) (x6 : Vec Ideal S64x64 .f32) (x7 : Vec Ideal S64 .f32) (x8 : Vec Ideal S16x1x1x1 .f32)
  (x9 : Vec Ideal S16 .f32) (x10 : Vec Ideal S16x16x1x7 .f32) (x11 : Vec Ideal S16 .f32) (x12 : Vec Ideal S32x32x1x1 .f32)
  (x13 : Vec Ideal S32 .f32) (x14 : Vec Ideal S64x32x1x1 .f32) (x15 : Vec Ideal S64 .f32) (x16 : Vec Ideal S64x64x1x7 .f32)
  (x17 : Vec Ideal S64 .f32) (x18 : Vec Ideal S32x128x1x1 .f32) (x19 : Vec Ideal S32 .f32) (x20 : Vec Ideal S16x32x1x1 .f32)
  (x21 : Vec Ideal S16 .f32) (x22 : Vec Ideal S1x16x1x1 .f32) (x23 : Vec Ideal S1 .f32)

/-- Member `b` of the signal, with six zero steps on either side. -/
def padded (b : Fin 4) (j : ℕ) (n : Fin 1024) : EReal :=
  if h : 6 ≤ j ∧ j < 262 then x0 (ix3 b ⟨j - 6, by omega⟩ n) else 0

/-- The first pointwise convolution of member `b`. -/
abbrev chan1 (b : Fin 4) : Chan 16 := start (fun o => x8 (ix4 o 0 0 0)) (fun o => x9 (ix1 o)) (padded x0 b)

/-- The first convolution along time. -/
abbrev chan2 (b : Fin 4) : Chan 16 := conv (fun k o i => x10 (ix4 o i 0 k)) (fun o => x11 (ix1 o)) (chan1 x0 x8 x9 b)

/-- A weight on the value itself: its own and the kept share of its partner's. -/
abbrev own {O I : ℕ} (lo hi : Fin O → Fin I → EReal) (o : Fin O) (i : Fin I) : EReal := lo o i + keep * hi o i

/-- A weight on the hop: the passed share of the partner's. -/
abbrev hopped {O I : ℕ} (hi : Fin O → Fin I → EReal) (o : Fin O) (i : Fin I) : EReal := pass * hi o i

/-- The first graph convolution. -/
abbrev chan3 (b : Fin 4) : Chan 32 :=
  mixA (norm (scores x1 x2 x3 x4 x5 x6 x7)) (own (fun o (i : Fin 16) => x12 (ix4 o (Fin.castAdd 16 i) 0 0)) fun o i => x12 (ix4 o (Fin.natAdd 16 i) 0 0))
    (hopped fun o (i : Fin 16) => x12 (ix4 o (Fin.natAdd 16 i) 0 0)) (fun o => x13 (ix1 o)) (chan2 x0 x8 x9 x10 x11 b)

/-- The dense layer after it, cut to the signal's own steps. -/
abbrev chan4 (b : Fin 4) : Chan 64 :=
  cut (dense (fun o i => x14 (ix4 o i 0 0)) (fun o => x15 (ix1 o)) (chan3 x0 x1 x2 x3 x4 x5 x6 x7 x8 x9 x10 x11 x12 x13 b))

/-- The second convolution along time. -/
abbrev chan5 (b : Fin 4) : Chan 64 :=
  conv (fun k o i => x16 (ix4 o i 0 k)) (fun o => x17 (ix1 o)) (chan4 x0 x1 x2 x3 x4 x5 x6 x7 x8 x9 x10 x11 x12 x13 x14 x15 b)

/-- The second graph convolution. -/
abbrev chan6 (b : Fin 4) : Chan 32 :=
  mixB (norm (scores x1 x2 x3 x4 x5 x6 x7)) (own (fun o (i : Fin 64) => x18 (ix4 o (Fin.castAdd 64 i) 0 0)) fun o i => x18 (ix4 o (Fin.natAdd 64 i) 0 0))
    (hopped fun o (i : Fin 64) => x18 (ix4 o (Fin.natAdd 64 i) 0 0)) (fun o => x19 (ix1 o))
    (chan5 x0 x1 x2 x3 x4 x5 x6 x7 x8 x9 x10 x11 x12 x13 x14 x15 x16 x17 b)

/-- The whole network. -/
abbrev chan7 (b : Fin 4) : Chan 1 :=
  dense (fun o i => x22 (ix4 o i 0 0)) (fun o => x23 (ix1 o)) (dense (fun o i => x20 (ix4 o i 0 0)) (fun o => x21 (ix1 o))
    (chan6 x0 x1 x2 x3 x4 x5 x6 x7 x8 x9 x10 x11 x12 x13 x14 x15 x16 x17 x18 x19 b))

/-- The padded first stage is the network's, three steps on. -/
theorem startPad_eq (b : Fin 4) (o : Fin 16) (n : Fin 1024) (s : Fin 262) :
    val_main_v55 (F := Ideal) x0 x8 x9 (ix4 b o n s) = chan1 x0 x8 x9 b o (s.val + 3) n := by
  rw [startPad_at]
  unfold chan1 start within padded
  by_cases h : 3 ≤ s.val ∧ s.val < 259
  · rw [dif_pos h, if_pos (by omega), dif_pos (by omega), start_at]
    have e : (⟨s.val + 3 - 6, by omega⟩ : Fin 256) = ⟨s.val - 3, by omega⟩ := Fin.ext (by show s.val + 3 - 6 = s.val - 3; omega)
    rw [e]
  · rw [dif_neg h, if_neg (by omega)]

theorem conv1_eq (b : Fin 4) (o : Fin 16) (n : Fin 1024) (t : Fin 256) :
    val_main_v102 (F := Ideal) x0 x8 x9 x10 x11 (ix4 b o n t) = chan2 x0 x8 x9 x10 x11 b o (t.val + 3) n := by
  rw [conv1_at]
  simp only [startPad_eq]
  show _ = max ((∑ k : Fin 7, ∑ i : Fin 16, x10 (ix4 o i 0 k) * chan1 x0 x8 x9 b i (t.val + 3 + k.val) n) + x11 (ix1 o)) 0
  have e : ∀ k : Fin 7, t.val + k.val + 3 = t.val + 3 + k.val := fun k => by omega
  simp only [e]

/-- The part of the values that a graph convolution keeps is a non-negative real number, and so is the part it passes on. -/
theorem fine_keep : Fine keep ∧ 0 ≤ keep := by
  unfold keep Ideal.ofBits Ideal.ieee
  dsimp only
  rw [if_neg (by decide), if_neg (by decide)]
  exact ⟨⟨_, rfl⟩, EReal.coe_nonneg.mpr (by rw [if_neg (by decide)]; positivity)⟩

theorem fine_pass : Fine pass ∧ 0 ≤ pass := by
  unfold pass Ideal.ofBits Ideal.ieee
  dsimp only
  rw [if_neg (by decide), if_neg (by decide)]
  exact ⟨⟨_, rfl⟩, EReal.coe_nonneg.mpr (by rw [if_neg (by decide)]; positivity)⟩

/-- The graph holds non-negative real numbers. -/
theorem fine_graph (v w : Fin 1024) : Fine (norm (scores x1 x2 x3 x4 x5 x6 x7) v w) ∧ 0 ≤ norm (scores x1 x2 x3 x4 x5 x6 x7) v w :=
  norm_fine _ (fun _ _ => score_range _ _ _ _) v w

section Fine

variable (h0 : ∀ i, Fine (x0 i)) (h8 : ∀ i, Fine (x8 i)) (h9 : ∀ i, Fine (x9 i)) (h10 : ∀ i, Fine (x10 i)) (h11 : ∀ i, Fine (x11 i))
  (h12 : ∀ i, Fine (x12 i)) (h13 : ∀ i, Fine (x13 i)) (h14 : ∀ i, Fine (x14 i)) (h15 : ∀ i, Fine (x15 i)) (h16 : ∀ i, Fine (x16 i))
  (h17 : ∀ i, Fine (x17 i))

include h0 h8 h9 h10 h11 in
theorem fines2 (b : Fin 4) : Fines (chan2 x0 x8 x9 x10 x11 b) := by
  refine fines_conv (fun _ _ _ => h10 _) (fun _ => h11 _) (fines_start (fun _ => h8 _) (fun _ => h9 _) fun j n => ?_)
  unfold padded
  split
  · exact h0 _
  · exact fine_zero

include h0 h8 h9 h10 h11 h12 in
theorem mix1_eq (b : Fin 4) (o : Fin 32) (n : Fin 1024) (t : Fin 256) :
    val_main_v128 (F := Ideal) x0 x1 x2 x3 x4 x5 x6 x7 x8 x9 x10 x11 x12 x13 (ix4 b o n t)
      = chan3 x0 x1 x2 x3 x4 x5 x6 x7 x8 x9 x10 x11 x12 x13 b o (t.val + 3) n := by
  rw [mix1_at]
  simp only [conv1_eq, graph_at]
  have h2 := fines2 x0 x8 x9 x10 x11 h0 h8 h9 h10 h11 b
  have p2 : ∀ (i : Fin 16) (w : Fin 1024), 0 ≤ chan2 x0 x8 x9 x10 x11 b i (t.val + 3) w := fun _ _ => le_max_right _ _
  rw [mixR_A fine_keep.2 fine_pass.2 p2 (fun w => (fine_graph x1 x2 x3 x4 x5 x6 x7 n w).2)
    (fun i w => h2 i (t.val + 3) w)]
  rfl

include h0 h8 h9 h10 h11 h12 in
theorem densePad_eq (b : Fin 4) (o : Fin 64) (n : Fin 1024) (s : Fin 262) :
    val_main_v135 (F := Ideal) x0 x1 x2 x3 x4 x5 x6 x7 x8 x9 x10 x11 x12 x13 x14 x15 (ix4 b o n s)
      = chan4 x0 x1 x2 x3 x4 x5 x6 x7 x8 x9 x10 x11 x12 x13 x14 x15 b o s.val n := by
  rw [densePad_at]
  show _ = within 3 259 s.val ((∑ i : Fin 32, x14 (ix4 o i 0 0) * chan3 x0 x1 x2 x3 x4 x5 x6 x7 x8 x9 x10 x11 x12 x13 b i s.val n) + x15 (ix1 o))
  unfold within
  by_cases h : 3 ≤ s.val ∧ s.val < 259
  · rw [dif_pos h, if_pos h, dense1_at]
    simp only [mix1_eq x0 x1 x2 x3 x4 x5 x6 x7 x8 x9 x10 x11 x12 x13 h0 h8 h9 h10 h11 h12]
    have e : s.val - 3 + 3 = s.val := by omega
    simp only [e]
  · rw [dif_neg h, if_neg h]

include h0 h8 h9 h10 h11 h12 in
theorem conv2_eq (b : Fin 4) (o : Fin 64) (n : Fin 1024) (t : Fin 256) :
    val_main_v182 (F := Ideal) x0 x1 x2 x3 x4 x5 x6 x7 x8 x9 x10 x11 x12 x13 x14 x15 x16 x17 (ix4 b o n t)
      = chan5 x0 x1 x2 x3 x4 x5 x6 x7 x8 x9 x10 x11 x12 x13 x14 x15 x16 x17 b o t.val n := by
  rw [conv2_at]
  simp only [densePad_eq x0 x1 x2 x3 x4 x5 x6 x7 x8 x9 x10 x11 x12 x13 x14 x15 h0 h8 h9 h10 h11 h12]
  rfl

include h0 h8 h9 h10 h11 h12 h13 h14 h15 h16 h17 in
theorem fines5 (b : Fin 4) : Fines (chan5 x0 x1 x2 x3 x4 x5 x6 x7 x8 x9 x10 x11 x12 x13 x14 x15 x16 x17 b) :=
  fines_conv (fun _ _ _ => h16 _) (fun _ => h17 _) (fines_cut (fines_dense (fun _ _ => h14 _) (fun _ => h15 _)
    (fines_mixA (fun v w => (fine_graph x1 x2 x3 x4 x5 x6 x7 v w).1) (fun _ _ => (h12 _).add (fine_keep.1.mul (h12 _))) (fun _ _ => fine_pass.1.mul (h12 _)) (fun _ => h13 _)
      (fines2 x0 x8 x9 x10 x11 h0 h8 h9 h10 h11 b))))

include h0 h8 h9 h10 h11 h12 h13 h14 h15 h16 h17 in
theorem mix2_eq (b : Fin 4) (o : Fin 32) (n : Fin 1024) (t : Fin 256) :
    val_main_v208 (F := Ideal) x0 x1 x2 x3 x4 x5 x6 x7 x8 x9 x10 x11 x12 x13 x14 x15 x16 x17 x18 x19 (ix4 b o n t)
      = chan6 x0 x1 x2 x3 x4 x5 x6 x7 x8 x9 x10 x11 x12 x13 x14 x15 x16 x17 x18 x19 b o t.val n := by
  rw [mix2_at]
  simp only [conv2_eq x0 x1 x2 x3 x4 x5 x6 x7 x8 x9 x10 x11 x12 x13 x14 x15 x16 x17 h0 h8 h9 h10 h11 h12, graph_at]
  have h5 := fines5 x0 x1 x2 x3 x4 x5 x6 x7 x8 x9 x10 x11 x12 x13 x14 x15 x16 x17 h0 h8 h9 h10 h11 h12 h13 h14 h15 h16 h17 b
  have p5 : ∀ (i : Fin 64) (w : Fin 1024), 0 ≤ chan5 x0 x1 x2 x3 x4 x5 x6 x7 x8 x9 x10 x11 x12 x13 x14 x15 x16 x17 b i t.val w :=
    fun _ _ => le_max_right _ _
  rw [mixR_B fine_keep.2 fine_pass.2 p5 (fun w => (fine_graph x1 x2 x3 x4 x5 x6 x7 n w).2)
    (fun i w => h5 i t.val w) (fun w => (fine_graph x1 x2 x3 x4 x5 x6 x7 n w).1)]
  rfl

include h0 h8 h9 h10 h11 h12 h13 h14 h15 h16 h17 in
/-- The reference's result at member `b`, step `t` and node `n`. -/
theorem result_eq (b : Fin 4) (t : Fin 256) (n : Fin 1024) :
    val_main_v222 (F := Ideal) x0 x1 x2 x3 x4 x5 x6 x7 x8 x9 x10 x11 x12 x13 x14 x15 x16 x17 x18 x19 x20 x21 x22 x23 (ix3 b t n)
      = chan7 x0 x1 x2 x3 x4 x5 x6 x7 x8 x9 x10 x11 x12 x13 x14 x15 x16 x17 x18 x19 x20 x21 x22 x23 b 0 t.val n := by
  rw [out_at]
  simp only [mix2_eq x0 x1 x2 x3 x4 x5 x6 x7 x8 x9 x10 x11 x12 x13 x14 x15 x16 x17 x18 x19 h0 h8 h9 h10 h11 h12 h13 h14 h15 h16 h17]
  rfl

end Fine

end Cert.ReferenceIdeal.Net
end
-- ==== Proof.Final.lean ====
/- The kernel's result, read at an index in terms of its arguments: what the host writes before each launch, the graph the
   first launch leaves, and the network the second computes from it. -/
module

public import proofs.«01_k».proof.Proof.Host
public import proofs.«01_k».proof.Proof.Value0
public import proofs.«01_k».proof.Proof.Value1
public import proofs.«01_k».proof.Proof.Whole

@[expose] public section

set_option maxRecDepth 16384

noncomputable section

namespace Cert.KernelIdeal.Net

open Cert.KernelIdeal Cert.KernelIdeal.Gen
open Idealize.ShloMosaic Idealize.ShloMosaic.TcCoe Idealize.ShloMosaic.Tactic Idealize.SL.Sem
open Cert.Net
open Cert.ReferenceIdeal.Net (scores own hopped keep pass padded chan7)

variable (m : (ℓ : Loc nD τ sig) → Buf (Elt Ideal) ℓ) (ρ : Dev nD → PrngReg) (c : Dev nD)

/-- What argument `a` holds at the launch. -/
abbrev arg (a : Ref sig .tc) : Buf (Elt Ideal) ((c : Thread nD τ).loc a) := m ((c : Thread nD τ).loc a)

theorem rows1 : (V3 m ρ c main_v0 : Vec Ideal S1024x64 .f32) = Cert.ReferenceIdeal.Read.val_main_v2 (F := Ideal) (arg m c main_arg1) (arg m c main_arg2) :=
  (W3_of m ρ c main_v0 (by decide)).trans ((W2_of m ρ c main_v0 (by decide)).trans (host_v0 (W0 m ρ c)))

theorem rows2 : (V3 m ρ c main_v1 : Vec Ideal S1024x64 .f32) = Cert.ReferenceIdeal.Read.val_main_v3 (F := Ideal) (arg m c main_arg1) (arg m c main_arg3) := by
  refine (W3_of m ρ c main_v1 (by decide)).trans ((host_v1 (W1 m ρ c)).trans ?_)
  rw [W1_args m ρ c main_arg1 (by decide), W1_args m ρ c main_arg3 (by decide)]

/-- The graph the first launch leaves. -/
theorem graph_final (v w : Fin 1024) : (W4 m ρ c (Proc.devRef .tc main_v4) : Vec Ideal S1024x1024 .f32) (ix2 v w)
    = norm (scores (arg m c main_arg1) (arg m c main_arg2) (arg m c main_arg3) (arg m c main_arg4) (arg m c main_arg5) (arg m c main_arg6) (arg m c main_arg7)) v w := by
  have e2 : ∀ i, (V3 m ρ c main_v2 : Vec Ideal S1x64 .f32) (ix2 0 i) = (arg m c main_arg5 : Vec Ideal S64 .f32) (ix1 i) := fun i =>
    (host_v2 (W2 m ρ c) i).trans (congrFun (W2_args m ρ c main_arg5 (by decide)) _)
  have e3 : ∀ i, (V3 m ρ c main_v3 : Vec Ideal S1x64 .f32) (ix2 0 i) = (arg m c main_arg7 : Vec Ideal S64 .f32) (ix1 i) := fun i =>
    (host_v3 (W2 m ρ c) i).trans (congrFun (W2_args m ρ c main_arg7 (by decide)) _)
  have e4 : V3 m ρ c main_arg4 = arg m c main_arg4 := W3_args m ρ c main_arg4 (by decide)
  have e6 : V3 m ρ c main_arg6 = arg m c main_arg6 := W3_args m ρ c main_arg6 (by decide)
  refine (congrFun (W4_arr m ρ c 6) (ix2 v w)).trans ((final0 (V3 m ρ) c v w).trans ?_)
  rw [rows1, rows2, e4, e6]
  simp only [e2, e3]

theorem in_v9 (k : Fin 7) (o i : Fin 16) : (V7 m ρ c main_v9 : Vec Ideal S7x16x16 .bf16) (ix3 k o i) = (arg m c main_arg10 : Vec Ideal S16x16x1x7 .f32) (ix4 o i 0 k) := by
  refine (host_v9 (W6 m ρ c) k o i).trans ?_
  rw [W6_args m ρ c main_arg10 (by decide)]

theorem in_v12 (k : Fin 7) (o i : Fin 64) : (V7 m ρ c main_v12 : Vec Ideal S7x64x64 .bf16) (ix3 k o i) = (arg m c main_arg16 : Vec Ideal S64x64x1x7 .f32) (ix4 o i 0 k) := by
  refine (host_v12 (W6 m ρ c) k o i).trans ?_
  rw [W6_args m ρ c main_arg16 (by decide)]

theorem in_v19 (o : Fin 32) (i : Fin 16) : (V7 m ρ c main_v19 : Vec Ideal S32x16 .bf16) (ix2 o i) = own (fun (o : Fin 32) (i : Fin 16) => (arg m c main_arg12 : Vec Ideal S32x32x1x1 .f32) (ix4 o (Fin.castAdd 16 i) 0 0)) (fun (o : Fin 32) (i : Fin 16) => (arg m c main_arg12 : Vec Ideal S32x32x1x1 .f32) (ix4 o (Fin.natAdd 16 i) 0 0)) o i := by
  refine (host_v19 (W6 m ρ c) o i).trans ?_
  rw [W6_args m ρ c main_arg12 (by decide)]

theorem in_v23 (o : Fin 32) (i : Fin 16) : (V7 m ρ c main_v23 : Vec Ideal S32x16 .bf16) (ix2 o i) = hopped (fun (o : Fin 32) (i : Fin 16) => (arg m c main_arg12 : Vec Ideal S32x32x1x1 .f32) (ix4 o (Fin.natAdd 16 i) 0 0)) o i := by
  refine (host_v23 (W6 m ρ c) o i).trans ?_
  rw [W6_args m ρ c main_arg12 (by decide)]

theorem in_v30 (o : Fin 32) (i : Fin 64) : (V7 m ρ c main_v30 : Vec Ideal S32x64 .bf16) (ix2 o i) = own (fun (o : Fin 32) (i : Fin 64) => (arg m c main_arg18 : Vec Ideal S32x128x1x1 .f32) (ix4 o (Fin.castAdd 64 i) 0 0)) (fun (o : Fin 32) (i : Fin 64) => (arg m c main_arg18 : Vec Ideal S32x128x1x1 .f32) (ix4 o (Fin.natAdd 64 i) 0 0)) o i := by
  refine (host_v30 (W6 m ρ c) o i).trans ?_
  rw [W6_args m ρ c main_arg18 (by decide)]

theorem in_v34 (o : Fin 32) (i : Fin 64) : (V7 m ρ c main_v34 : Vec Ideal S32x64 .bf16) (ix2 o i) = hopped (fun (o : Fin 32) (i : Fin 64) => (arg m c main_arg18 : Vec Ideal S32x128x1x1 .f32) (ix4 o (Fin.natAdd 64 i) 0 0)) o i := by
  refine (host_v34 (W6 m ρ c) o i).trans ?_
  rw [W6_args m ρ c main_arg18 (by decide)]

theorem in_v36 (o : Fin 64) (i : Fin 32) : (V7 m ρ c main_v36 : Vec Ideal S64x32 .bf16) (ix2 o i) = (arg m c main_arg14 : Vec Ideal S64x32x1x1 .f32) (ix4 o i 0 0) := by
  refine (host_v36 (W6 m ρ c) o i).trans ?_
  rw [W6_args m ρ c main_arg14 (by decide)]

theorem in_v38 (o : Fin 16) (i : Fin 32) : (V7 m ρ c main_v38 : Vec Ideal S16x32 .bf16) (ix2 o i) = (arg m c main_arg20 : Vec Ideal S16x32x1x1 .f32) (ix4 o i 0 0) := by
  refine (host_v38 (W6 m ρ c) o i).trans ?_
  rw [W6_args m ρ c main_arg20 (by decide)]

theorem in_v40 (o : Fin 1) (i : Fin 16) : (V7 m ρ c main_v40 : Vec Ideal S1x16 .bf16) (ix2 o i) = (arg m c main_arg22 : Vec Ideal S1x16x1x1 .f32) (ix4 o i 0 0) := by
  refine (host_v40 (W6 m ρ c) o i).trans ?_
  rw [W6_args m ρ c main_arg22 (by decide)]

theorem in_v42 (o : Fin 16) : (V7 m ρ c main_v42 : Vec Ideal S16x1 .f32) (ix2 o 0) = (arg m c main_arg8 : Vec Ideal S16x1x1x1 .f32) (ix4 o 0 0 0) := by
  refine (host_v42 (W6 m ρ c) o).trans ?_
  rw [W6_args m ρ c main_arg8 (by decide)]

theorem in_v43 (o : Fin 16) : (V7 m ρ c main_v43 : Vec Ideal S16x1 .f32) (ix2 o 0) = (arg m c main_arg9 : Vec Ideal S16 .f32) (ix1 o) := by
  refine (host_v43 (W6 m ρ c) o).trans ?_
  rw [W6_args m ρ c main_arg9 (by decide)]

theorem in_v44 (o : Fin 16) : (V7 m ρ c main_v44 : Vec Ideal S16x1 .f32) (ix2 o 0) = (arg m c main_arg11 : Vec Ideal S16 .f32) (ix1 o) := by
  refine (host_v44 (W6 m ρ c) o).trans ?_
  rw [W6_args m ρ c main_arg11 (by decide)]

theorem in_v45 (o : Fin 32) : (V7 m ρ c main_v45 : Vec Ideal S32x1 .f32) (ix2 o 0) = (arg m c main_arg13 : Vec Ideal S32 .f32) (ix1 o) := by
  refine (host_v45 (W6 m ρ c) o).trans ?_
  rw [W6_args m ρ c main_arg13 (by decide)]

theorem in_v46 (o : Fin 64) : (V7 m ρ c main_v46 : Vec Ideal S64x1 .f32) (ix2 o 0) = (arg m c main_arg15 : Vec Ideal S64 .f32) (ix1 o) := by
  refine (host_v46 (W6 m ρ c) o).trans ?_
  rw [W6_args m ρ c main_arg15 (by decide)]

theorem in_v47 (o : Fin 64) : (V7 m ρ c main_v47 : Vec Ideal S64x1 .f32) (ix2 o 0) = (arg m c main_arg17 : Vec Ideal S64 .f32) (ix1 o) := by
  refine (host_v47 (W6 m ρ c) o).trans ?_
  rw [W6_args m ρ c main_arg17 (by decide)]

theorem in_v48 (o : Fin 32) : (V7 m ρ c main_v48 : Vec Ideal S32x1 .f32) (ix2 o 0) = (arg m c main_arg19 : Vec Ideal S32 .f32) (ix1 o) := by
  refine (host_v48 (W6 m ρ c) o).trans ?_
  rw [W6_args m ρ c main_arg19 (by decide)]

theorem in_v49 (o : Fin 16) : (V7 m ρ c main_v49 : Vec Ideal S16x1 .f32) (ix2 o 0) = (arg m c main_arg21 : Vec Ideal S16 .f32) (ix1 o) := by
  refine (host_v49 (W6 m ρ c) o).trans ?_
  rw [W6_args m ρ c main_arg21 (by decide)]

theorem in_v50 (o : Fin 1) : (V7 m ρ c main_v50 : Vec Ideal S1x1 .f32) (ix2 o 0) = (arg m c main_arg23 : Vec Ideal S1 .f32) (ix1 o) := by
  refine (host_v50 (W6 m ρ c) o).trans ?_
  rw [W6_args m ρ c main_arg23 (by decide)]

theorem in_v6 (v w : Fin 1024) : (V7 m ρ c main_v6 : Vec Ideal S1024x1024 .bf16) (ix2 v w) = norm (scores (arg m c main_arg1) (arg m c main_arg2) (arg m c main_arg3) (arg m c main_arg4) (arg m c main_arg5) (arg m c main_arg6) (arg m c main_arg7)) v w := by
  refine (host_v6 (W6 m ρ c) v w).trans ?_
  rw [W6_of m ρ c main_v4 (by decide), W5_of m ρ c main_v4 (by decide)]
  exact graph_final m ρ c v w

/-- The padded signal the second launch reads. -/
theorem in_v5 (b : Fin 4) : signal (fun x => (V7 m ρ c main_v5 : Vec Ideal S4x268x1024 .f32) (ix3 b (x 1) (x 2))) = padded (arg m c main_arg0) b := by
  funext j n
  unfold signal padded
  by_cases h : j < 268
  · rw [dif_pos h]
    have e : (V7 m ρ c main_v5 : Vec Ideal S4x268x1024 .f32) (ix3 b ⟨j, h⟩ n) = _ :=
      (congrFun (W7_of m ρ c main_v5 (by decide)) _).trans (host_v5 (W5 m ρ c) b ⟨j, h⟩ n)
    refine Eq.trans (show _ = (V7 m ρ c main_v5 : Vec Ideal S4x268x1024 .f32) (ix3 b ⟨j, h⟩ n) from rfl) (e.trans ?_)
    by_cases h' : 6 ≤ j ∧ j < 262
    · rw [dif_pos h', dif_pos h', W5_args m ρ c main_arg0 (by decide)]
    · rw [dif_neg h', dif_neg h']
      refine (congrArg (fun f : Vec Ideal S_ .i32 => sitofp (F := Ideal) .f32 f (Shape.Idx.first h_S_)) (host_c (W4 m ρ c))).trans ?_
      show (((0#32 : BitVec 32).toInt : ℝ) : EReal) = 0
      simp
  · rw [dif_neg h, dif_neg (by omega)]

/-- Equal weights, graph and signal give the same network. -/
theorem netK_congr {csw csw' : Fin 16 → EReal}
    {csb csb' : Fin 16 → EReal}
    {etw etw' : Fin 7 → Fin 16 → Fin 16 → EReal}
    {etb etb' : Fin 16 → EReal}
    {we1 we1' : Fin 32 → Fin 16 → EReal}
    {we2 we2' : Fin 32 → Fin 16 → EReal}
    {egb egb' : Fin 32 → EReal}
    {eow eow' : Fin 64 → Fin 32 → EReal}
    {eob eob' : Fin 64 → EReal}
    {dtw dtw' : Fin 7 → Fin 64 → Fin 64 → EReal}
    {dtb dtb' : Fin 64 → EReal}
    {vd1 vd1' : Fin 32 → Fin 64 → EReal}
    {vd2 vd2' : Fin 32 → Fin 64 → EReal}
    {dgb dgb' : Fin 32 → EReal}
    {dow dow' : Fin 16 → Fin 32 → EReal}
    {dob dob' : Fin 16 → EReal}
    {cew cew' : Fin 1 → Fin 16 → EReal}
    {ceb ceb' : Fin 1 → EReal}
    {A A' : Fin 1024 → Fin 1024 → EReal}
    {x x' : ℕ → Fin 1024 → EReal}
    (h_csw : csw = csw') (h_csb : csb = csb') (h_etw : etw = etw') (h_etb : etb = etb') (h_we1 : we1 = we1') (h_we2 : we2 = we2') (h_egb : egb = egb') (h_eow : eow = eow') (h_eob : eob = eob') (h_dtw : dtw = dtw') (h_dtb : dtb = dtb') (h_vd1 : vd1 = vd1') (h_vd2 : vd2 = vd2') (h_dgb : dgb = dgb') (h_dow : dow = dow') (h_dob : dob = dob') (h_cew : cew = cew') (h_ceb : ceb = ceb') (h_A : A = A') (h_x : x = x') :
    netK csw csb etw etb we1 we2 egb eow eob dtw dtb vd1 vd2 dgb dow dob cew ceb A x = netK csw' csb' etw' etb' we1' we2' egb' eow' eob' dtw' dtb' vd1' vd2' dgb' dow' dob' cew' ceb' A' x' := by
  subst h_csw h_csb h_etw h_etb h_we1 h_we2 h_egb h_eow h_eob h_dtw h_dtb h_vd1 h_vd2 h_dgb h_dow h_dob h_cew h_ceb h_A h_x
  rfl

/-- The kernel's result at member `b`, step `t` and node `n`. -/
theorem result_at (b : Fin 4) (t : Fin 256) (n : Fin 1024) : (W8 m ρ c (Proc.devRef .tc main_v51) : Vec Ideal S4x256x1024 .f32) (ix3 b t n)
    = chan7 (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) b 0 t.val n := by
  refine (congrFun (W8_arr m ρ c 20) (ix3 b t n)).trans ((final1 (V7 m ρ) c b t n).trans ?_)
  exact congrFun (congrFun (congrFun (netK_congr (funext fun o => in_v42 m ρ c o)
    (funext fun o => in_v43 m ρ c o)
    (funext fun k => funext fun o => funext fun i => in_v9 m ρ c k o i)
    (funext fun o => in_v44 m ρ c o)
    (funext fun o => funext fun i => in_v19 m ρ c o i)
    (funext fun o => funext fun i => in_v23 m ρ c o i)
    (funext fun o => in_v45 m ρ c o)
    (funext fun o => funext fun i => in_v36 m ρ c o i)
    (funext fun o => in_v46 m ρ c o)
    (funext fun k => funext fun o => funext fun i => in_v12 m ρ c k o i)
    (funext fun o => in_v47 m ρ c o)
    (funext fun o => funext fun i => in_v30 m ρ c o i)
    (funext fun o => funext fun i => in_v34 m ρ c o i)
    (funext fun o => in_v48 m ρ c o)
    (funext fun o => funext fun i => in_v38 m ρ c o i)
    (funext fun o => in_v49 m ρ c o)
    (funext fun o => funext fun i => in_v40 m ρ c o i)
    (funext fun o => in_v50 m ρ c o)
    (funext fun o => funext fun i => in_v6 m ρ c o i)
    (in_v5 m ρ c b)) 0) t.val) n

end Cert.KernelIdeal.Net
end
-- ==== Proof.Claims.lean ====
/- The claims. The kernel and its idealized form keep their arguments and end with every counter at zero; so does the
   reference; and on finite inputs the idealized kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.IRun
public import proofs.«01_k».proof.Proof.Final

@[expose] public section

set_option maxRecDepth 16384

noncomputable section

namespace Cert.Net

open Idealize.ShloMosaic Idealize.ShloMosaic.TcCoe Idealize.SL.Sem

/-- The shape facts of the precondition. -/
theorem pre_facts : Cert.Pre_finite_inputs.Facts := by
  constructor <;> decide

/-- The word 0x7F800000 is infinity. -/
theorem top_word : Ideal.ofBits .f32 0x7F800000#32 = (⊤ : EReal) := by
  simp [Ideal.ofBits, Ideal.ieee]

/-- A number whose absolute value is below infinity is real. -/
theorem fine_of_abs (x : EReal) (h : max x (-x) < ⊤) : Fine x := by
  induction x with
  | bot => exact absurd h (by simp)
  | top => exact absurd h (by simp)
  | coe r => exact ⟨r, rfl⟩

/-- An array that passes the test `|x| < ∞` everywhere holds real numbers only. -/
theorem fine_of_test {s : Shape} (x : FVec Ideal s .f32) (hb : (⟨0, ![]⟩ : Shape).BroadcastsInDim s ![])
    (e : cmpf .olt (Host.absf x) (broadcastInDim s ![] hb (constant ⟨0, ![]⟩ .f32 0x7F800000#32)) = fun _ => 1#1) (i : s.Idx) : Fine (x i) := by
  have h : BitVec.ofBool (decide (max (x i : EReal) (-(x i : EReal)) < Ideal.ofBits .f32 0x7F800000#32)) = 1#1 := congrFun e i
  rw [top_word] at h
  refine fine_of_abs _ ?_
  by_contra hn
  rw [decide_eq_false hn] at h
  exact absurd h (by decide)

/-- The kernel keeps its arguments and ends with every counter at zero, at every number format. -/
theorem frame_p : @Cert.quiescent_Kernel Cert.Kernel.Gen.facts := fun m ρ _ => Cert.Kernel.Net.frame m ρ

/-- So does the idealized kernel, -/
theorem frame_pi : @Cert.quiescent_KernelIdeal Cert.KernelIdeal.Gen.facts := fun m ρ _ => Cert.KernelIdeal.Net.frame m ρ

/-- on finite inputs as on any. -/
theorem frame_pi_pre : @Cert.quiescent_KernelIdeal_pre_finite_inputs Cert.KernelIdeal.Gen.facts pre_facts := fun m ρ _ =>
  Cert.KernelIdeal.Net.frame m ρ

/-- The reference keeps its arguments; it has no counters. -/
theorem frame_ri : @Cert.quiescent_ReferenceIdeal Cert.ReferenceIdeal.Gen.facts := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same on finite inputs. -/
theorem frame_ri_pre : @Cert.quiescent_ReferenceIdeal_pre_finite_inputs Cert.ReferenceIdeal.Gen.facts pre_facts := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

section Values

variable (m : (ℓ : Loc Cert.KernelIdeal.nD Cert.KernelIdeal.τ Cert.KernelIdeal.sig) → Buf (Elt Ideal) ℓ) (c : Dev Cert.KernelIdeal.nD)

/-- Argument 0 holds real numbers only. -/
theorem fine0 (h : @Cert.Pre_KernelIdeal_finite_inputs pre_facts m) (i : Cert.KernelIdeal.S4x256x1024.Idx) :
    Fine ((m ((c : Thread Cert.KernelIdeal.nD Cert.KernelIdeal.τ).loc Cert.KernelIdeal.main_arg0) : Vec Ideal Cert.KernelIdeal.S4x256x1024 .f32) i) :=
  fine_of_test _ (by decide) (h c).1 i

/-- Argument 8 holds real numbers only. -/
theorem fine8 (h : @Cert.Pre_KernelIdeal_finite_inputs pre_facts m) (i : Cert.KernelIdeal.S16x1x1x1.Idx) :
    Fine ((m ((c : Thread Cert.KernelIdeal.nD Cert.KernelIdeal.τ).loc Cert.KernelIdeal.main_arg8) : Vec Ideal Cert.KernelIdeal.S16x1x1x1 .f32) i) :=
  fine_of_test _ (by decide) (h c).2.1 i

/-- Argument 9 holds real numbers only. -/
theorem fine9 (h : @Cert.Pre_KernelIdeal_finite_inputs pre_facts m) (i : Cert.KernelIdeal.S16.Idx) :
    Fine ((m ((c : Thread Cert.KernelIdeal.nD Cert.KernelIdeal.τ).loc Cert.KernelIdeal.main_arg9) : Vec Ideal Cert.KernelIdeal.S16 .f32) i) :=
  fine_of_test _ (by decide) (h c).2.2.1 i

/-- Argument 10 holds real numbers only. -/
theorem fine10 (h : @Cert.Pre_KernelIdeal_finite_inputs pre_facts m) (i : Cert.KernelIdeal.S16x16x1x7.Idx) :
    Fine ((m ((c : Thread Cert.KernelIdeal.nD Cert.KernelIdeal.τ).loc Cert.KernelIdeal.main_arg10) : Vec Ideal Cert.KernelIdeal.S16x16x1x7 .f32) i) :=
  fine_of_test _ (by decide) (h c).2.2.2.1 i

/-- Argument 11 holds real numbers only. -/
theorem fine11 (h : @Cert.Pre_KernelIdeal_finite_inputs pre_facts m) (i : Cert.KernelIdeal.S16.Idx) :
    Fine ((m ((c : Thread Cert.KernelIdeal.nD Cert.KernelIdeal.τ).loc Cert.KernelIdeal.main_arg11) : Vec Ideal Cert.KernelIdeal.S16 .f32) i) :=
  fine_of_test _ (by decide) (h c).2.2.2.2.1 i

/-- Argument 12 holds real numbers only. -/
theorem fine12 (h : @Cert.Pre_KernelIdeal_finite_inputs pre_facts m) (i : Cert.KernelIdeal.S32x32x1x1.Idx) :
    Fine ((m ((c : Thread Cert.KernelIdeal.nD Cert.KernelIdeal.τ).loc Cert.KernelIdeal.main_arg12) : Vec Ideal Cert.KernelIdeal.S32x32x1x1 .f32) i) :=
  fine_of_test _ (by decide) (h c).2.2.2.2.2.1 i

/-- Argument 13 holds real numbers only. -/
theorem fine13 (h : @Cert.Pre_KernelIdeal_finite_inputs pre_facts m) (i : Cert.KernelIdeal.S32.Idx) :
    Fine ((m ((c : Thread Cert.KernelIdeal.nD Cert.KernelIdeal.τ).loc Cert.KernelIdeal.main_arg13) : Vec Ideal Cert.KernelIdeal.S32 .f32) i) :=
  fine_of_test _ (by decide) (h c).2.2.2.2.2.2.1 i

/-- Argument 14 holds real numbers only. -/
theorem fine14 (h : @Cert.Pre_KernelIdeal_finite_inputs pre_facts m) (i : Cert.KernelIdeal.S64x32x1x1.Idx) :
    Fine ((m ((c : Thread Cert.KernelIdeal.nD Cert.KernelIdeal.τ).loc Cert.KernelIdeal.main_arg14) : Vec Ideal Cert.KernelIdeal.S64x32x1x1 .f32) i) :=
  fine_of_test _ (by decide) (h c).2.2.2.2.2.2.2.1 i

/-- Argument 15 holds real numbers only. -/
theorem fine15 (h : @Cert.Pre_KernelIdeal_finite_inputs pre_facts m) (i : Cert.KernelIdeal.S64.Idx) :
    Fine ((m ((c : Thread Cert.KernelIdeal.nD Cert.KernelIdeal.τ).loc Cert.KernelIdeal.main_arg15) : Vec Ideal Cert.KernelIdeal.S64 .f32) i) :=
  fine_of_test _ (by decide) (h c).2.2.2.2.2.2.2.2.1 i

/-- Argument 16 holds real numbers only. -/
theorem fine16 (h : @Cert.Pre_KernelIdeal_finite_inputs pre_facts m) (i : Cert.KernelIdeal.S64x64x1x7.Idx) :
    Fine ((m ((c : Thread Cert.KernelIdeal.nD Cert.KernelIdeal.τ).loc Cert.KernelIdeal.main_arg16) : Vec Ideal Cert.KernelIdeal.S64x64x1x7 .f32) i) :=
  fine_of_test _ (by decide) (h c).2.2.2.2.2.2.2.2.2.1 i

/-- Argument 17 holds real numbers only. -/
theorem fine17 (h : @Cert.Pre_KernelIdeal_finite_inputs pre_facts m) (i : Cert.KernelIdeal.S64.Idx) :
    Fine ((m ((c : Thread Cert.KernelIdeal.nD Cert.KernelIdeal.τ).loc Cert.KernelIdeal.main_arg17) : Vec Ideal Cert.KernelIdeal.S64 .f32) i) :=
  fine_of_test _ (by decide) (h c).2.2.2.2.2.2.2.2.2.2 i

end Values

/-- On finite inputs both programs end with the same result. -/
theorem algebraic : @Cert.algebraic_KernelIdeal_ReferenceIdeal_pre_finite_inputs Cert.KernelIdeal.Gen.facts Cert.ReferenceIdeal.Gen.facts pre_facts := by
  intro m g m' g' hpre hagree
  refine ⟨fun c => Cert.KernelIdeal.Net.W8 m g c (Proc.devRef .tc Cert.KernelIdeal.main_v51),
    (θ_run Cert.KernelIdeal.defs _ _).mono (fun r h c => ⟨h.2 c, h.1.1 c⟩) (Cert.KernelIdeal.Net.run m g),
    (θ_run Cert.ReferenceIdeal.defs _ _).mono (fun r h c => ⟨(h c).1.trans ?_, (h c).2⟩) (Cert.ReferenceIdeal.Value.run (F := Ideal) m' g')⟩
  refine (Cert.ReferenceIdeal.Read.val_main_v222_eq (StableHlo.launchContents m' c)).trans ?_
  obtain ⟨e0, e1, e2, e3, e4, e5, e6, e7, e8, e9, e10, e11, e12, e13, e14, e15, e16, e17, e18, e19, e20, e21, e22, e23⟩ := hagree c
  show Cert.ReferenceIdeal.Read.val_main_v222 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (m' ((c : Thread Cert.ReferenceIdeal.nD Cert.ReferenceIdeal.τ).loc Cert.ReferenceIdeal.main_arg16)) (m' ((c : Thread Cert.ReferenceIdeal.nD Cert.ReferenceIdeal.τ).loc Cert.ReferenceIdeal.main_arg17)) (m' ((c : Thread Cert.ReferenceIdeal.nD Cert.ReferenceIdeal.τ).loc Cert.ReferenceIdeal.main_arg18)) (m' ((c : Thread Cert.ReferenceIdeal.nD Cert.ReferenceIdeal.τ).loc Cert.ReferenceIdeal.main_arg19)) (m' ((c : Thread Cert.ReferenceIdeal.nD Cert.ReferenceIdeal.τ).loc Cert.ReferenceIdeal.main_arg20)) (m' ((c : Thread Cert.ReferenceIdeal.nD Cert.ReferenceIdeal.τ).loc Cert.ReferenceIdeal.main_arg21)) (m' ((c : Thread Cert.ReferenceIdeal.nD Cert.ReferenceIdeal.τ).loc Cert.ReferenceIdeal.main_arg22)) (m' ((c : Thread Cert.ReferenceIdeal.nD Cert.ReferenceIdeal.τ).loc Cert.ReferenceIdeal.main_arg23)) = _
  rw [e0, e1, e2, e3, e4, e5, e6, e7, e8, e9, e10, e11, e12, e13, e14, e15, e16, e17, e18, e19, e20, e21, e22, e23]
  funext j
  obtain ⟨b, t, n, hj⟩ : ∃ (b : Fin 4) (t : Fin 256) (n : Fin 1024), j = ix3 b t n := ⟨_, _, _, eq_ix3 j⟩
  subst hj
  exact (Cert.ReferenceIdeal.Net.result_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23))
    (fine0 m c hpre) (fine8 m c hpre) (fine9 m c hpre) (fine10 m c hpre) (fine11 m c hpre) (fine12 m c hpre) (fine13 m c hpre) (fine14 m c hpre) (fine15 m c hpre) (fine16 m c hpre) (fine17 m c hpre) b t n).trans (Cert.KernelIdeal.Net.result_at m g c b t n).symm

end Cert.Net
end
-- ==== Proof.lean ====
/- The certificate: the kernel keeps its arguments, the idealized kernel is the kernel's own text, and on finite inputs
   its result is the reference's at every index. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Net.pre_facts,
    Cert.Net.frame_p, Cert.Net.frame_pi, Cert.Net.frame_pi_pre, Cert.Net.frame_ri, Cert.Net.frame_ri_pre, trivial, Cert.Net.algebraic⟩

end Cert.Proof

end
